-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))
      ∧ r.2.sem = fun _ => 0)

def preserves_Kernel_KernelIdeal : Prop :=
  IdealRules.named_const.Statement Cert.KernelIdeal.κ "mask" .f32 0xFF7E486F#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v30_0)) (v1 : (c : Dev Cert.KernelIdeal.nD) → Buf (Elt Ideal) ((c.tc : Thread Cert.KernelIdeal.nD Cert.KernelIdeal.τ).loc Cert.KernelIdeal.main_v30_2)) (v2 : (c : Dev Cert.KernelIdeal.nD) → Buf (Elt Ideal) ((c.tc : Thread Cert.KernelIdeal.nD Cert.KernelIdeal.τ).loc Cert.KernelIdeal.main_v30_3)) (v3 : (c : Dev Cert.KernelIdeal.nD) → Buf (Elt Ideal) ((c.tc : Thread Cert.KernelIdeal.nD Cert.KernelIdeal.τ).loc Cert.KernelIdeal.main_v30_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30_0) = v0 c
          ∧ r.2.mem ((c.tc : Thread Cert.KernelIdeal.nD Cert.KernelIdeal.τ).loc Cert.KernelIdeal.main_v30_2) = v1 c
          ∧ r.2.mem ((c.tc : Thread Cert.KernelIdeal.nD Cert.KernelIdeal.τ).loc Cert.KernelIdeal.main_v30_3) = v2 c
          ∧ r.2.mem ((c.tc : Thread Cert.KernelIdeal.nD Cert.KernelIdeal.τ).loc Cert.KernelIdeal.main_v30_1) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v205) = v0 c
          ∧ r.2.mem ((c.tc : Thread Cert.ReferenceIdeal.nD Cert.ReferenceIdeal.τ).loc Cert.ReferenceIdeal.main_v206) = v1 c
          ∧ r.2.mem ((c.tc : Thread Cert.ReferenceIdeal.nD Cert.ReferenceIdeal.τ).loc Cert.ReferenceIdeal.main_v207) = v2 c
          ∧ r.2.mem ((c.tc : Thread Cert.ReferenceIdeal.nD Cert.ReferenceIdeal.τ).loc Cert.ReferenceIdeal.main_v51) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S16384x768 : Shape := ⟨2, ![16384, 768]⟩
abbrev S768 : Shape := ⟨1, ![768]⟩
abbrev S768x8 : Shape := ⟨2, ![768, 8]⟩
abbrev S8 : Shape := ⟨1, ![8]⟩
abbrev S8x768 : Shape := ⟨2, ![8, 768]⟩
abbrev S8x768x256 : Shape := ⟨3, ![8, 768, 256]⟩
abbrev S8x256 : Shape := ⟨2, ![8, 256]⟩
abbrev S8x256x128 : Shape := ⟨3, ![8, 256, 128]⟩
abbrev S8x128 : Shape := ⟨2, ![8, 128]⟩
abbrev S8x128x1 : Shape := ⟨3, ![8, 128, 1]⟩
abbrev S8x1 : Shape := ⟨2, ![8, 1]⟩
abbrev S_ : Shape := ⟨0, ![]⟩

class Facts : Prop where
  bcast_S_S768 : S_.BroadcastsInDim S768 (![] : Fin 0 → Fin S768.rank)
  reducesTo_S768_S_d0 : S768.ReducesTo [0] S_
  h_S_ : 0 < S_.numel
  bcast_S_S768x8 : S_.BroadcastsInDim S768x8 (![] : Fin 0 → Fin S768x8.rank)
  reducesTo_S768x8_S_d0_1 : S768x8.ReducesTo [0, 1] S_
  bcast_S_S8 : S_.BroadcastsInDim S8 (![] : Fin 0 → Fin S8.rank)
  reducesTo_S8_S_d0 : S8.ReducesTo [0] S_
  bcast_S_S8x768 : S_.BroadcastsInDim S8x768 (![] : Fin 0 → Fin S8x768.rank)
  reducesTo_S8x768_S_d0_1 : S8x768.ReducesTo [0, 1] S_
  bcast_S_S8x768x256 : S_.BroadcastsInDim S8x768x256 (![] : Fin 0 → Fin S8x768x256.rank)
  reducesTo_S8x768x256_S_d0_1_2 : S8x768x256.ReducesTo [0, 1, 2] S_
  bcast_S_S8x256 : S_.BroadcastsInDim S8x256 (![] : Fin 0 → Fin S8x256.rank)
  reducesTo_S8x256_S_d0_1 : S8x256.ReducesTo [0, 1] S_
  bcast_S_S8x256x128 : S_.BroadcastsInDim S8x256x128 (![] : Fin 0 → Fin S8x256x128.rank)
  reducesTo_S8x256x128_S_d0_1_2 : S8x256x128.ReducesTo [0, 1, 2] S_
  bcast_S_S8x128 : S_.BroadcastsInDim S8x128 (![] : Fin 0 → Fin S8x128.rank)
  reducesTo_S8x128_S_d0_1 : S8x128.ReducesTo [0, 1] S_
  bcast_S_S8x128x1 : S_.BroadcastsInDim S8x128x1 (![] : Fin 0 → Fin S8x128x1.rank)
  reducesTo_S8x128x1_S_d0_1_2 : S8x128x1.ReducesTo [0, 1, 2] S_

variable [Facts]

def fn_part2 {F : FTy → Type} [FloatOps F] (main_arg13 : FVec F S8x256x128 .f32) (main_arg15 : FVec F S8x128 .f32) (main_arg17 : FVec F S8x128x1 .f32) (main_v33 : IVec S_ 1) : IVec S_ 1 :=
  let main_v34 : FVec F S8x256x128 .f32 := Host.absf main_arg13
  let main_cst_12 : FVec F S_ .f32 := constant S_ .f32 0x7F800000#32
  let main_v35 : FVec F S8x256x128 .f32 := broadcastInDim S8x256x128 ![] bcast_S_S8x256x128 main_cst_12
  let main_v36 : IVec S8x256x128 1 := cmpf .olt main_v34 main_v35
  let main_c_13 : IVec S_ 1 := constantI S_ 1 1#1
  let main_v37 : IVec S_ 1 := (fun x v => Host.reduce IntOp.andi x v reducesTo_S8x256x128_S_d0_1_2 h_S_) main_v36 main_c_13
  let main_v38 : IVec S_ 1 := andi main_v33 main_v37
  let main_v39 : FVec F S8x128 .f32 := Host.absf main_arg15
  let main_cst_14 : FVec F S_ .f32 := constant S_ .f32 0x7F800000#32
  let main_v40 : FVec F S8x128 .f32 := broadcastInDim S8x128 ![] bcast_S_S8x128 main_cst_14
  let main_v41 : IVec S8x128 1 := cmpf .olt main_v39 main_v40
  let main_c_15 : IVec S_ 1 := constantI S_ 1 1#1
  let main_v42 : IVec S_ 1 := (fun x v => Host.reduce IntOp.andi x v reducesTo_S8x128_S_d0_1 h_S_) main_v41 main_c_15
  let main_v43 : IVec S_ 1 := andi main_v38 main_v42
  let main_v44 : FVec F S8x128x1 .f32 := Host.absf main_arg17
  let main_cst_16 : FVec F S_ .f32 := constant S_ .f32 0x7F800000#32
  let main_v45 : FVec F S8x128x1 .f32 := broadcastInDim S8x128x1 ![] bcast_S_S8x128x1 main_cst_16
  let main_v46 : IVec S8x128x1 1 := cmpf .olt main_v44 main_v45
  let main_c_17 : IVec S_ 1 := constantI S_ 1 1#1
  let main_v47 : IVec S_ 1 := (fun x v => Host.reduce IntOp.andi x v reducesTo_S8x128x1_S_d0_1_2 h_S_) main_v46 main_c_17
  let main_v48 : IVec S_ 1 := andi main_v43 main_v47
  main_v48

def fn_part1 {F : FTy → Type} [FloatOps F] (main_arg7 : FVec F S8x768 .f32) (main_arg9 : FVec F S8x768x256 .f32) (main_arg11 : FVec F S8x256 .f32) (main_arg13 : FVec F S8x256x128 .f32) (main_arg15 : FVec F S8x128 .f32) (main_arg17 : FVec F S8x128x1 .f32) (main_v13 : IVec S_ 1) (main_v16 : IVec S8 1) : IVec S_ 1 :=
  let main_c_5 : IVec S_ 1 := constantI S_ 1 1#1
  let main_v17 : IVec S_ 1 := (fun x v => Host.reduce IntOp.andi x v reducesTo_S8_S_d0 h_S_) main_v16 main_c_5
  let main_v18 : IVec S_ 1 := andi main_v13 main_v17
  let main_v19 : FVec F S8x768 .f32 := Host.absf main_arg7
  let main_cst_6 : FVec F S_ .f32 := constant S_ .f32 0x7F800000#32
  let main_v20 : FVec F S8x768 .f32 := broadcastInDim S8x768 ![] bcast_S_S8x768 main_cst_6
  let main_v21 : IVec S8x768 1 := cmpf .olt main_v19 main_v20
  let main_c_7 : IVec S_ 1 := constantI S_ 1 1#1
  let main_v22 : IVec S_ 1 := (fun x v => Host.reduce IntOp.andi x v reducesTo_S8x768_S_d0_1 h_S_) main_v21 main_c_7
  let main_v23 : IVec S_ 1 := andi main_v18 main_v22
  let main_v24 : FVec F S8x768x256 .f32 := Host.absf main_arg9
  let main_cst_8 : FVec F S_ .f32 := constant S_ .f32 0x7F800000#32
  let main_v25 : FVec F S8x768x256 .f32 := broadcastInDim S8x768x256 ![] bcast_S_S8x768x256 main_cst_8
  let main_v26 : IVec S8x768x256 1 := cmpf .olt main_v24 main_v25
  let main_c_9 : IVec S_ 1 := constantI S_ 1 1#1
  let main_v27 : IVec S_ 1 := (fun x v => Host.reduce IntOp.andi x v reducesTo_S8x768x256_S_d0_1_2 h_S_) main_v26 main_c_9
  let main_v28 : IVec S_ 1 := andi main_v23 main_v27
  let main_v29 : FVec F S8x256 .f32 := Host.absf main_arg11
  let main_cst_10 : FVec F S_ .f32 := constant S_ .f32 0x7F800000#32
  let main_v30 : FVec F S8x256 .f32 := broadcastInDim S8x256 ![] bcast_S_S8x256 main_cst_10
  let main_v31 : IVec S8x256 1 := cmpf .olt main_v29 main_v30
  let main_c_11 : IVec S_ 1 := constantI S_ 1 1#1
  let main_v32 : IVec S_ 1 := (fun x v => Host.reduce IntOp.andi x v reducesTo_S8x256_S_d0_1 h_S_) main_v31 main_c_11
  let main_v33 : IVec S_ 1 := andi main_v28 main_v32
  fn_part2 (F := F) main_arg13 main_arg15 main_arg17 main_v33

def fn {F : FTy → Type} [FloatOps F] (main_arg0 : FVec F S16384x768 .f32) (main_arg1 : FVec F S768 .f32) (main_arg2 : FVec F S768 .f32) (main_arg3 : FVec F S768 .f32) (main_arg4 : FVec F S768 .f32) (main_arg5 : FVec F S768x8 .f32) (main_arg6 : FVec F S8 .f32) (main_arg7 : FVec F S8x768 .f32) (main_arg8 : FVec F S8x768 .f32) (main_arg9 : FVec F S8x768x256 .f32) (main_arg10 : FVec F S8x256 .f32) (main_arg11 : FVec F S8x256 .f32) (main_arg12 : FVec F S8x256 .f32) (main_arg13 : FVec F S8x256x128 .f32) (main_arg14 : FVec F S8x128 .f32) (main_arg15 : FVec F S8x128 .f32) (main_arg16 : FVec F S8x128 .f32) (main_arg17 : FVec F S8x128x1 .f32) (main_arg18 : FVec F S8x1 .f32) : IVec S_ 1 :=
  let main_v0 : FVec F S768 .f32 := Host.absf main_arg3
  let main_cst : FVec F S_ .f32 := constant S_ .f32 0x7F800000#32
  let main_v1 : FVec F S768 .f32 := broadcastInDim S768 ![] bcast_S_S768 main_cst
  let main_v2 : IVec S768 1 := cmpf .olt main_v0 main_v1
  let main_c : IVec S_ 1 := constantI S_ 1 1#1
  let main_v3 : IVec S_ 1 := (fun x v => Host.reduce IntOp.andi x v reducesTo_S768_S_d0 h_S_) main_v2 main_c
  let main_v4 : FVec F S768 .f32 := Host.absf main_arg4
  let main_cst_0 : FVec F S_ .f32 := constant S_ .f32 0x7F800000#32
  let main_v5 : FVec F S768 .f32 := broadcastInDim S768 ![] bcast_S_S768 main_cst_0
  let main_v6 : IVec S768 1 := cmpf .olt main_v4 main_v5
  let main_c_1 : IVec S_ 1 := constantI S_ 1 1#1
  let main_v7 : IVec S_ 1 := (fun x v => Host.reduce IntOp.andi x v reducesTo_S768_S_d0 h_S_) main_v6 main_c_1
  let main_v8 : IVec S_ 1 := andi main_v3 main_v7
  let main_v9 : FVec F S768x8 .f32 := Host.absf main_arg5
  let main_cst_2 : FVec F S_ .f32 := constant S_ .f32 0x7F800000#32
  let main_v10 : FVec F S768x8 .f32 := broadcastInDim S768x8 ![] bcast_S_S768x8 main_cst_2
  let main_v11 : IVec S768x8 1 := cmpf .olt main_v9 main_v10
  let main_c_3 : IVec S_ 1 := constantI S_ 1 1#1
  let main_v12 : IVec S_ 1 := (fun x v => Host.reduce IntOp.andi x v reducesTo_S768x8_S_d0_1 h_S_) main_v11 main_c_3
  let main_v13 : IVec S_ 1 := andi main_v8 main_v12
  let main_v14 : FVec F S8 .f32 := Host.absf main_arg6
  let main_cst_4 : FVec F S_ .f32 := constant S_ .f32 0x7F800000#32
  let main_v15 : FVec F S8 .f32 := broadcastInDim S8 ![] bcast_S_S8 main_cst_4
  let main_v16 : IVec S8 1 := cmpf .olt main_v14 main_v15
  fn_part1 (F := F) main_arg7 main_arg9 main_arg11 main_arg13 main_arg15 main_arg17 main_v13 main_v16
-- ==== Kernel.lean ====
abbrev S16384x768 : Shape := ⟨2, ![16384, 768]⟩
abbrev S768 : Shape := ⟨1, ![768]⟩
abbrev S768x8 : Shape := ⟨2, ![768, 8]⟩
abbrev S8 : Shape := ⟨1, ![8]⟩
abbrev S8x768 : Shape := ⟨2, ![8, 768]⟩
abbrev S8x768x256 : Shape := ⟨3, ![8, 768, 256]⟩
abbrev S8x256 : Shape := ⟨2, ![8, 256]⟩
abbrev S8x256x128 : Shape := ⟨3, ![8, 256, 128]⟩
abbrev S8x128 : Shape := ⟨2, ![8, 128]⟩
abbrev S8x128x1 : Shape := ⟨3, ![8, 128, 1]⟩
abbrev S8x1 : Shape := ⟨2, ![8, 1]⟩
abbrev S768x1 : Shape := ⟨2, ![768, 1]⟩
abbrev S8x768x1 : Shape := ⟨3, ![8, 768, 1]⟩
abbrev S8x256x1 : Shape := ⟨3, ![8, 256, 1]⟩
abbrev S_ : Shape := ⟨0, ![]⟩
abbrev S1x768 : Shape := ⟨2, ![1, 768]⟩
abbrev S1x8 : Shape := ⟨2, ![1, 8]⟩
abbrev S8x1x256 : Shape := ⟨3, ![8, 1, 256]⟩
abbrev S8x1x128 : Shape := ⟨3, ![8, 1, 128]⟩
abbrev S16384x1 : Shape := ⟨2, ![16384, 1]⟩
abbrev S16384x8 : Shape := ⟨2, ![16384, 8]⟩
abbrev S512x768 : Shape := ⟨2, ![512, 768]⟩
abbrev S512x1 : Shape := ⟨2, ![512, 1]⟩
abbrev S512x8 : Shape := ⟨2, ![512, 8]⟩
abbrev S512 : Shape := ⟨1, ![512]⟩
abbrev S1x768x256 : Shape := ⟨3, ![1, 768, 256]⟩
abbrev S768x256 : Shape := ⟨2, ![768, 256]⟩
abbrev S512x256 : Shape := ⟨2, ![512, 256]⟩
abbrev S1x1x256 : Shape := ⟨3, ![1, 1, 256]⟩
abbrev S1x256 : Shape := ⟨2, ![1, 256]⟩
abbrev S1x256x128 : Shape := ⟨3, ![1, 256, 128]⟩
abbrev S256x128 : Shape := ⟨2, ![256, 128]⟩
abbrev S512x128 : Shape := ⟨2, ![512, 128]⟩
abbrev S1x1x128 : Shape := ⟨3, ![1, 1, 128]⟩
abbrev S1x128 : Shape := ⟨2, ![1, 128]⟩
abbrev S1x1 : Shape := ⟨2, ![1, 1]⟩

abbrev nBuf : Space → Nat
  | .hbm => 54
  | .vmem => 18
  | .smem => 0
  | _ => 0

abbrev bufTy : (tb : Table) → Fin (tcTables nBuf tb) → BufTy
  | .hbm, ⟨0, _⟩ => ⟨S16384x768, .f32⟩
  | .hbm, ⟨1, _⟩ => ⟨S768, .f32⟩
  | .hbm, ⟨2, _⟩ => ⟨S768, .f32⟩
  | .hbm, ⟨3, _⟩ => ⟨S768, .f32⟩
  | .hbm, ⟨4, _⟩ => ⟨S768, .f32⟩
  | .hbm, ⟨5, _⟩ => ⟨S768x8, .f32⟩
  | .hbm, ⟨6, _⟩ => ⟨S8, .f32⟩
  | .hbm, ⟨7, _⟩ => ⟨S8x768, .f32⟩
  | .hbm, ⟨8, _⟩ => ⟨S8x768, .f32⟩
  | .hbm, ⟨9, _⟩ => ⟨S8x768x256, .f32⟩
  | .hbm, ⟨10, _⟩ => ⟨S8x256, .f32⟩
  | .hbm, ⟨11, _⟩ => ⟨S8x256, .f32⟩
  | .hbm, ⟨12, _⟩ => ⟨S8x256, .f32⟩
  | .hbm, ⟨13, _⟩ => ⟨S8x256x128, .f32⟩
  | .hbm, ⟨14, _⟩ => ⟨S8x128, .f32⟩
  | .hbm, ⟨15, _⟩ => ⟨S8x128, .f32⟩
  | .hbm, ⟨16, _⟩ => ⟨S8x128, .f32⟩
  | .hbm, ⟨17, _⟩ => ⟨S8x128x1, .f32⟩
  | .hbm, ⟨18, _⟩ => ⟨S8x1, .f32⟩
  | .hbm, ⟨19, _⟩ => ⟨S768x1, .f32⟩
  | .hbm, ⟨20, _⟩ => ⟨S768x8, .f32⟩
  | .hbm, ⟨21, _⟩ => ⟨S768x8, .f32⟩
  | .hbm, ⟨22, _⟩ => ⟨S8, .f32⟩
  | .hbm, ⟨23, _⟩ => ⟨S8, .f32⟩
  | .hbm, ⟨24, _⟩ => ⟨S8x768x1, .f32⟩
  | .hbm, ⟨25, _⟩ => ⟨S8x768x256, .f32⟩
  | .hbm, ⟨26, _⟩ => ⟨S8x768x256, .f32⟩
  | .hbm, ⟨27, _⟩ => ⟨S8x768x256, .bf16⟩
  | .hbm, ⟨28, _⟩ => ⟨S8x256, .f32⟩
  | .hbm, ⟨29, _⟩ => ⟨S8x256, .f32⟩
  | .hbm, ⟨30, _⟩ => ⟨S8x256x1, .f32⟩
  | .hbm, ⟨31, _⟩ => ⟨S8x256x128, .f32⟩
  | .hbm, ⟨32, _⟩ => ⟨S8x256x128, .f32⟩
  | .hbm, ⟨33, _⟩ => ⟨S8x256x128, .bf16⟩
  | .hbm, ⟨34, _⟩ => ⟨S8x128, .f32⟩
  | .hbm, ⟨35, _⟩ => ⟨S8x128, .f32⟩
  | .hbm, ⟨36, _⟩ => ⟨S8x128, .f32⟩
  | .hbm, ⟨37, _⟩ => ⟨S8x128, .f32⟩
  | .hbm, ⟨38, _⟩ => ⟨S8x128, .f32⟩
  | .hbm, ⟨39, _⟩ => ⟨S8x128, .f32⟩
  | .hbm, ⟨40, _⟩ => ⟨S_, .f32⟩
  | .hbm, ⟨41, _⟩ => ⟨S8, .f32⟩
  | .hbm, ⟨42, _⟩ => ⟨S8x1, .f32⟩
  | .hbm, ⟨43, _⟩ => ⟨S8x1, .f32⟩
  | .hbm, ⟨44, _⟩ => ⟨S1x768, .f32⟩
  | .hbm, ⟨45, _⟩ => ⟨S1x768, .f32⟩
  | .hbm, ⟨46, _⟩ => ⟨S1x8, .f32⟩
  | .hbm, ⟨47, _⟩ => ⟨S8x1x256, .f32⟩
  | .hbm, ⟨48, _⟩ => ⟨S8x1x128, .f32⟩
  | .hbm, ⟨49, _⟩ => ⟨S8x1x128, .f32⟩
  | .hbm, ⟨50, _⟩ => ⟨S16384x1, .f32⟩
  | .hbm, ⟨51, _⟩ => ⟨S16384x8, .f32⟩
  | .hbm, ⟨52, _⟩ => ⟨S1x8, .f32⟩
  | .hbm, ⟨53, _⟩ => ⟨S1x8, .f32⟩
  | .local _ .vmem, ⟨0, _⟩ => ⟨S1x768, .f32⟩
  | .local _ .vmem, ⟨1, _⟩ => ⟨S1x768, .f32⟩
  | .local _ .vmem, ⟨2, _⟩ => ⟨S768x8, .f32⟩
  | .local _ .vmem, ⟨3, _⟩ => ⟨S1x8, .f32⟩
  | .local _ .vmem, ⟨4, _⟩ => ⟨S8x768x256, .bf16⟩
  | .local _ .vmem, ⟨5, _⟩ => ⟨S8x1x256, .f32⟩
  | .local _ .vmem, ⟨6, _⟩ => ⟨S8x256x128, .bf16⟩
  | .local _ .vmem, ⟨7, _⟩ => ⟨S8x1x128, .f32⟩
  | .local _ .vmem, ⟨8, _⟩ => ⟨S8x1x128, .f32⟩
  | .local _ .vmem, ⟨9, _⟩ => ⟨S8x1, .f32⟩
  | .local _ .vmem, ⟨10, _⟩ => ⟨S512x768, .f32⟩
  | .local _ .vmem, ⟨11, _⟩ => ⟨S512x768, .f32⟩
  | .local _ .vmem, ⟨12, _⟩ => ⟨S512x1, .f32⟩
  | .local _ .vmem, ⟨13, _⟩ => ⟨S512x1, .f32⟩
  | .local _ .vmem, ⟨14, _⟩ => ⟨S512x8, .f32⟩
  | .local _ .vmem, ⟨15, _⟩ => ⟨S512x8, .f32⟩
  | .local _ .vmem, ⟨16, _⟩ => ⟨S1x8, .f32⟩
  | .local _ .vmem, ⟨17, _⟩ => ⟨S1x8, .f32⟩
  | _, _ => ⟨S16384x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_cst : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30_0 : Ref sig .tc := ⟨.hbm, 50, rfl⟩
abbrev main_v30_1 : Ref sig .tc := ⟨.hbm, 51, rfl⟩
abbrev main_v30_2 : Ref sig .tc := ⟨.hbm, 52, rfl⟩
abbrev main_v30_3 : Ref sig .tc := ⟨.hbm, 53, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg10_1 : Ref sig .tc := ⟨.vmem, 11, rfl⟩
abbrev cc0_stg11_0 : Ref sig .tc := ⟨.vmem, 12, rfl⟩
abbrev cc0_stg11_1 : Ref sig .tc := ⟨.vmem, 13, rfl⟩
abbrev cc0_stg12_0 : Ref sig .tc := ⟨.vmem, 14, rfl⟩
abbrev cc0_stg12_1 : Ref sig .tc := ⟨.vmem, 15, rfl⟩
abbrev cc0_stg13_0 : Ref sig .tc := ⟨.vmem, 16, rfl⟩
abbrev cc0_stg14_0 : Ref sig .tc := ⟨.vmem, 17, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem10_1 : DmaSem sig := 11
abbrev cc0_sem11_0 : DmaSem sig := 12
abbrev cc0_sem11_1 : DmaSem sig := 13
abbrev cc0_sem12_0 : DmaSem sig := 14
abbrev cc0_sem12_1 : DmaSem sig := 15
abbrev cc0_sem13_0 : DmaSem sig := 16
abbrev cc0_sem14_0 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S768x8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x768x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x256x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S8x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x768 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x8 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S1x8 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x8 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== KernelIdeal.lean ====
variable {F : FTy → Type} [FloatOps F] [Named F]
def κ : String → Option EReal := fun
  | "mask" => some ⊥
  | _ => none
-- ==== ReferenceIdeal.lean ====
abbrev S16384x768 : Shape := ⟨2, ![16384, 768]⟩
abbrev S768 : Shape := ⟨1, ![768]⟩
abbrev S768x8 : Shape := ⟨2, ![768, 8]⟩
abbrev S8 : Shape := ⟨1, ![8]⟩
abbrev S8x768 : Shape := ⟨2, ![8, 768]⟩
abbrev S8x768x256 : Shape := ⟨3, ![8, 768, 256]⟩
abbrev S8x256 : Shape := ⟨2, ![8, 256]⟩
abbrev S8x256x128 : Shape := ⟨3, ![8, 256, 128]⟩
abbrev S8x128 : Shape := ⟨2, ![8, 128]⟩
abbrev S8x128x1 : Shape := ⟨3, ![8, 128, 1]⟩
abbrev S8x1 : Shape := ⟨2, ![8, 1]⟩
abbrev S_ : Shape := ⟨0, ![]⟩
abbrev S16384 : Shape := ⟨1, ![16384]⟩
abbrev S16384x1 : Shape := ⟨2, ![16384, 1]⟩
abbrev S1x768 : Shape := ⟨2, ![1, 768]⟩
abbrev S16384x8 : Shape := ⟨2, ![16384, 8]⟩
abbrev S1x8 : Shape := ⟨2, ![1, 8]⟩
abbrev S16384x2 : Shape := ⟨2, ![16384, 2]⟩
abbrev S16384x2x1 : Shape := ⟨3, ![16384, 2, 1]⟩
abbrev S16384x2x2 : Shape := ⟨3, ![16384, 2, 2]⟩
abbrev S8x1x768 : Shape := ⟨3, ![8, 1, 768]⟩
abbrev S1x16384x768 : Shape := ⟨3, ![1, 16384, 768]⟩
abbrev S8x16384x768 : Shape := ⟨3, ![8, 16384, 768]⟩
abbrev S8x16384x256 : Shape := ⟨3, ![8, 16384, 256]⟩
abbrev S8x1x256 : Shape := ⟨3, ![8, 1, 256]⟩
abbrev S8x16384 : Shape := ⟨2, ![8, 16384]⟩
abbrev S8x16384x1 : Shape := ⟨3, ![8, 16384, 1]⟩
abbrev S8x16384x128 : Shape := ⟨3, ![8, 16384, 128]⟩
abbrev S8x1x128 : Shape := ⟨3, ![8, 1, 128]⟩
abbrev S8x1x1 : Shape := ⟨3, ![8, 1, 1]⟩

abbrev nBuf : Space → Nat
  | .hbm => 275
  | .vmem => 0
  | .smem => 0
  | _ => 0

abbrev hbmTy0_0 (i : Nat) : BufTy := match i % 128 with
  | 0 => ⟨S16384x768, .f32⟩
  | 1 => ⟨S768, .f32⟩
  | 2 => ⟨S768, .f32⟩
  | 3 => ⟨S768, .f32⟩
  | 4 => ⟨S768, .f32⟩
  | 5 => ⟨S768x8, .f32⟩
  | 6 => ⟨S8, .f32⟩
  | 7 => ⟨S8x768, .f32⟩
  | 8 => ⟨S8x768, .f32⟩
  | 9 => ⟨S8x768x256, .f32⟩
  | 10 => ⟨S8x256, .f32⟩
  | 11 => ⟨S8x256, .f32⟩
  | 12 => ⟨S8x256, .f32⟩
  | 13 => ⟨S8x256x128, .f32⟩
  | 14 => ⟨S8x128, .f32⟩
  | 15 => ⟨S8x128, .f32⟩
  | 16 => ⟨S8x128, .f32⟩
  | 17 => ⟨S8x128x1, .f32⟩
  | 18 => ⟨S8x1, .f32⟩
  | 19 => ⟨S_, .f32⟩
  | 20 => ⟨S16384, .f32⟩
  | 21 => ⟨S16384x1, .f32⟩
  | 22 => ⟨S_, .f32⟩
  | 23 => ⟨S16384x1, .f32⟩
  | 24 => ⟨S16384x1, .f32⟩
  | 25 => ⟨S16384x768, .f32⟩
  | 26 => ⟨S16384x768, .f32⟩
  | 27 => ⟨S16384x768, .f32⟩
  | 28 => ⟨S_, .f32⟩
  | 29 => ⟨S16384, .f32⟩
  | 30 => ⟨S16384x1, .f32⟩
  | 31 => ⟨S_, .f32⟩
  | 32 => ⟨S16384x1, .f32⟩
  | 33 => ⟨S16384x1, .f32⟩
  | 34 => ⟨S16384x768, .f32⟩
  | 35 => ⟨S16384x768, .f32⟩
  | 36 => ⟨S_, .f32⟩
  | 37 => ⟨S16384x1, .f32⟩
  | 38 => ⟨S16384x1, .f32⟩
  | 39 => ⟨S16384x1, .f32⟩
  | 40 => ⟨S16384x768, .f32⟩
  | 41 => ⟨S16384x768, .f32⟩
  | 42 => ⟨S1x768, .f32⟩
  | 43 => ⟨S16384x768, .f32⟩
  | 44 => ⟨S16384x768, .f32⟩
  | 45 => ⟨S1x768, .f32⟩
  | 46 => ⟨S16384x768, .f32⟩
  | 47 => ⟨S16384x768, .f32⟩
  | 48 => ⟨S_, .f32⟩
  | 49 => ⟨S16384, .f32⟩
  | 50 => ⟨S16384x1, .f32⟩
  | 51 => ⟨S_, .f32⟩
  | 52 => ⟨S16384x1, .f32⟩
  | 53 => ⟨S16384x1, .f32⟩
  | 54 => ⟨S16384x768, .f32⟩
  | 55 => ⟨S16384x768, .f32⟩
  | 56 => ⟨S16384x768, .f32⟩
  | 57 => ⟨S_, .f32⟩
  | 58 => ⟨S16384, .f32⟩
  | 59 => ⟨S16384x1, .f32⟩
  | 60 => ⟨S_, .f32⟩
  | 61 => ⟨S16384x1, .f32⟩
  | 62 => ⟨S16384x1, .f32⟩
  | 63 => ⟨S16384x768, .f32⟩
  | 64 => ⟨S16384x768, .f32⟩
  | 65 => ⟨S_, .f32⟩
  | 66 => ⟨S16384x1, .f32⟩
  | 67 => ⟨S16384x1, .f32⟩
  | 68 => ⟨S16384x1, .f32⟩
  | 69 => ⟨S16384x768, .f32⟩
  | 70 => ⟨S16384x768, .f32⟩
  | 71 => ⟨S1x768, .f32⟩
  | 72 => ⟨S16384x768, .f32⟩
  | 73 => ⟨S16384x768, .f32⟩
  | 74 => ⟨S1x768, .f32⟩
  | 75 => ⟨S16384x768, .f32⟩
  | 76 => ⟨S16384x768, .f32⟩
  | 77 => ⟨S16384x8, .f32⟩
  | 78 => ⟨S1x8, .f32⟩
  | 79 => ⟨S16384x8, .f32⟩
  | 80 => ⟨S16384x8, .f32⟩
  | 81 => ⟨S16384x2, .f32⟩
  | 82 => ⟨S16384x2, .i32⟩
  | 83 => ⟨S_, .f32⟩
  | 84 => ⟨S16384, .f32⟩
  | 85 => ⟨S_, .f32⟩
  | 86 => ⟨S16384, .f32⟩
  | 87 => ⟨S16384, .f32⟩
  | 88 => ⟨S16384x1, .f32⟩
  | 89 => ⟨S16384x2, .f32⟩
  | 90 => ⟨S16384x2, .f32⟩
  | 91 => ⟨S16384x2, .f32⟩
  | 92 => ⟨S_, .f32⟩
  | 93 => ⟨S16384, .f32⟩
  | 94 => ⟨S16384x1, .f32⟩
  | 95 => ⟨S16384x2, .f32⟩
  | 96 => ⟨S16384x2, .f32⟩
  | 97 => ⟨S_, .f32⟩
  | 98 => ⟨S16384x8, .f32⟩
  | 99 => ⟨S16384, .i32⟩
  | 100 => ⟨S16384x1, .i32⟩
  | 101 => ⟨S_, .i32⟩
  | 102 => ⟨S16384x1, .i32⟩
  | 103 => ⟨S16384x1, .i1⟩
  | 104 => ⟨S_, .i32⟩
  | 105 => ⟨S16384x1, .i32⟩
  | 106 => ⟨S16384x1, .i32⟩
  | 107 => ⟨S16384x1, .i32⟩
  | 108 => ⟨S_, .i32⟩
  | 109 => ⟨S16384x2, .i32⟩
  | 110 => ⟨S16384x2, .i1⟩
  | 111 => ⟨S_, .i32⟩
  | 112 => ⟨S16384x2, .i32⟩
  | 113 => ⟨S16384x2, .i32⟩
  | 114 => ⟨S16384x2, .i32⟩
  | 115 => ⟨S16384x2, .i32⟩
  | 116 => ⟨S16384x2x1, .i32⟩
  | 117 => ⟨S16384x2x1, .i32⟩
  | 118 => ⟨S16384x2x2, .i32⟩
  | 119 => ⟨S16384x8, .f32⟩
  | 120 => ⟨S_, .f32⟩
  | 121 => ⟨S16384x8, .f32⟩
  | 122 => ⟨S16384x8, .i1⟩
  | 123 => ⟨S16384x8, .f32⟩
  | 124 => ⟨S_, .f32⟩
  | 125 => ⟨S8, .f32⟩
  | 126 => ⟨S_, .f32⟩
  | 127 => ⟨S8, .f32⟩
  | _ => ⟨S16384x768, .f32⟩

abbrev hbmTy0_1 (i : Nat) : BufTy := match i % 128 with
  | 0 => ⟨S8, .f32⟩
  | 1 => ⟨S_, .f32⟩
  | 2 => ⟨S16384, .f32⟩
  | 3 => ⟨S_, .f32⟩
  | 4 => ⟨S16384, .f32⟩
  | 5 => ⟨S16384, .f32⟩
  | 6 => ⟨S16384x1, .f32⟩
  | 7 => ⟨S16384x8, .f32⟩
  | 8 => ⟨S16384x8, .f32⟩
  | 9 => ⟨S16384x8, .f32⟩
  | 10 => ⟨S_, .f32⟩
  | 11 => ⟨S16384, .f32⟩
  | 12 => ⟨S16384x1, .f32⟩
  | 13 => ⟨S16384x8, .f32⟩
  | 14 => ⟨S16384x8, .f32⟩
  | 15 => ⟨S_, .f32⟩
  | 16 => ⟨S8, .f32⟩
  | 17 => ⟨S_, .f32⟩
  | 18 => ⟨S8, .f32⟩
  | 19 => ⟨S8, .f32⟩
  | 20 => ⟨S_, .f32⟩
  | 21 => ⟨S16384, .f32⟩
  | 22 => ⟨S16384x1, .f32⟩
  | 23 => ⟨S_, .f32⟩
  | 24 => ⟨S16384x1, .f32⟩
  | 25 => ⟨S16384x1, .f32⟩
  | 26 => ⟨S16384x768, .f32⟩
  | 27 => ⟨S16384x768, .f32⟩
  | 28 => ⟨S16384x768, .f32⟩
  | 29 => ⟨S_, .f32⟩
  | 30 => ⟨S16384, .f32⟩
  | 31 => ⟨S16384x1, .f32⟩
  | 32 => ⟨S_, .f32⟩
  | 33 => ⟨S16384x1, .f32⟩
  | 34 => ⟨S16384x1, .f32⟩
  | 35 => ⟨S16384x768, .f32⟩
  | 36 => ⟨S16384x768, .f32⟩
  | 37 => ⟨S_, .f32⟩
  | 38 => ⟨S16384x1, .f32⟩
  | 39 => ⟨S16384x1, .f32⟩
  | 40 => ⟨S16384x1, .f32⟩
  | 41 => ⟨S16384x768, .f32⟩
  | 42 => ⟨S16384x768, .f32⟩
  | 43 => ⟨S8x1x768, .f32⟩
  | 44 => ⟨S1x16384x768, .f32⟩
  | 45 => ⟨S8x16384x768, .f32⟩
  | 46 => ⟨S8x16384x768, .f32⟩
  | 47 => ⟨S8x16384x768, .f32⟩
  | 48 => ⟨S8x1x768, .f32⟩
  | 49 => ⟨S8x16384x768, .f32⟩
  | 50 => ⟨S8x16384x768, .f32⟩
  | 51 => ⟨S8x16384x256, .f32⟩
  | 52 => ⟨S8x1x256, .f32⟩
  | 53 => ⟨S8x16384x256, .f32⟩
  | 54 => ⟨S8x16384x256, .f32⟩
  | 55 => ⟨S_, .f32⟩
  | 56 => ⟨S8x16384x256, .f32⟩
  | 57 => ⟨S8x16384x256, .f32⟩
  | 58 => ⟨S8x16384x256, .f32⟩
  | 59 => ⟨S_, .f32⟩
  | 60 => ⟨S8x16384x256, .f32⟩
  | 61 => ⟨S8x16384x256, .f32⟩
  | 62 => ⟨S8x16384x256, .f32⟩
  | 63 => ⟨S8x16384x256, .f32⟩
  | 64 => ⟨S_, .f32⟩
  | 65 => ⟨S8x16384, .f32⟩
  | 66 => ⟨S8x16384x1, .f32⟩
  | 67 => ⟨S_, .f32⟩
  | 68 => ⟨S8x16384x1, .f32⟩
  | 69 => ⟨S8x16384x1, .f32⟩
  | 70 => ⟨S8x16384x256, .f32⟩
  | 71 => ⟨S8x16384x256, .f32⟩
  | 72 => ⟨S8x16384x256, .f32⟩
  | 73 => ⟨S_, .f32⟩
  | 74 => ⟨S8x16384, .f32⟩
  | 75 => ⟨S8x16384x1, .f32⟩
  | 76 => ⟨S_, .f32⟩
  | 77 => ⟨S8x16384x1, .f32⟩
  | 78 => ⟨S8x16384x1, .f32⟩
  | 79 => ⟨S8x16384x256, .f32⟩
  | 80 => ⟨S8x16384x256, .f32⟩
  | 81 => ⟨S_, .f32⟩
  | 82 => ⟨S8x16384x1, .f32⟩
  | 83 => ⟨S8x16384x1, .f32⟩
  | 84 => ⟨S8x16384x1, .f32⟩
  | 85 => ⟨S8x16384x256, .f32⟩
  | 86 => ⟨S8x16384x256, .f32⟩
  | 87 => ⟨S8x1x256, .f32⟩
  | 88 => ⟨S8x16384x256, .f32⟩
  | 89 => ⟨S8x16384x256, .f32⟩
  | 90 => ⟨S8x1x256, .f32⟩
  | 91 => ⟨S8x16384x256, .f32⟩
  | 92 => ⟨S8x16384x256, .f32⟩
  | 93 => ⟨S8x16384x128, .f32⟩
  | 94 => ⟨S8x1x128, .f32⟩
  | 95 => ⟨S8x16384x128, .f32⟩
  | 96 => ⟨S8x16384x128, .f32⟩
  | 97 => ⟨S_, .f32⟩
  | 98 => ⟨S8x16384x128, .f32⟩
  | 99 => ⟨S8x16384x128, .f32⟩
  | 100 => ⟨S8x16384x128, .f32⟩
  | 101 => ⟨S_, .f32⟩
  | 102 => ⟨S8x16384x128, .f32⟩
  | 103 => ⟨S8x16384x128, .f32⟩
  | 104 => ⟨S8x16384x128, .f32⟩
  | 105 => ⟨S8x16384x128, .f32⟩
  | 106 => ⟨S_, .f32⟩
  | 107 => ⟨S8x16384, .f32⟩
  | 108 => ⟨S8x16384x1, .f32⟩
  | 109 => ⟨S_, .f32⟩
  | 110 => ⟨S8x16384x1, .f32⟩
  | 111 => ⟨S8x16384x1, .f32⟩
  | 112 => ⟨S8x16384x128, .f32⟩
  | 113 => ⟨S8x16384x128, .f32⟩
  | 114 => ⟨S8x16384x128, .f32⟩
  | 115 => ⟨S_, .f32⟩
  | 116 => ⟨S8x16384, .f32⟩
  | 117 => ⟨S8x16384x1, .f32⟩
  | 118 => ⟨S_, .f32⟩
  | 119 => ⟨S8x16384x1, .f32⟩
  | 120 => ⟨S8x16384x1, .f32⟩
  | 121 => ⟨S8x16384x128, .f32⟩
  | 122 => ⟨S8x16384x128, .f32⟩
  | 123 => ⟨S_, .f32⟩
  | 124 => ⟨S8x16384x1, .f32⟩
  | 125 => ⟨S8x16384x1, .f32⟩
  | 126 => ⟨S8x16384x1, .f32⟩
  | 127 => ⟨S8x16384x128, .f32⟩
  | _ => ⟨S16384x768, .f32⟩

abbrev hbmTy0_2 (i : Nat) : BufTy := match i % 128 with
  | 0 => ⟨S8x16384x128, .f32⟩
  | 1 => ⟨S8x1x128, .f32⟩
  | 2 => ⟨S8x16384x128, .f32⟩
  | 3 => ⟨S8x16384x128, .f32⟩
  | 4 => ⟨S8x1x128, .f32⟩
  | 5 => ⟨S8x16384x128, .f32⟩
  | 6 => ⟨S8x16384x128, .f32⟩
  | 7 => ⟨S8x16384x1, .f32⟩
  | 8 => ⟨S8x1x1, .f32⟩
  | 9 => ⟨S8x16384x1, .f32⟩
  | 10 => ⟨S8x16384x1, .f32⟩
  | 11 => ⟨S8x16384, .f32⟩
  | 12 => ⟨S16384x8, .f32⟩
  | 13 => ⟨S16384x8, .f32⟩
  | 14 => ⟨S_, .f32⟩
  | 15 => ⟨S16384, .f32⟩
  | 16 => ⟨S16384x1, .f32⟩
  | 17 => ⟨S1x8, .f32⟩
  | 18 => ⟨S1x8, .f32⟩
  | _ => ⟨S16384x768, .f32⟩

abbrev hbmTy (i : Nat) : BufTy := match i / 128 with
  | 0 => hbmTy0_0 i
  | 1 => hbmTy0_1 i
  | 2 => hbmTy0_2 i
  | _ => ⟨S16384x768, .f32⟩

abbrev bufTy : (tb : Table) → Fin (tcTables nBuf tb) → BufTy
  | .hbm, ⟨i, _⟩ => hbmTy i
  | _, _ => ⟨S16384x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_cst : Ref sig .tc := ⟨.hbm, 19, rfl⟩
abbrev main_v0 : Ref sig .tc := ⟨.hbm, 20, rfl⟩
abbrev main_v1 : Ref sig .tc := ⟨.hbm, 21, rfl⟩
abbrev main_cst_0 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_cst_1 : Ref sig .tc := ⟨.hbm, 28, rfl⟩
abbrev main_v7 : Ref sig .tc := ⟨.hbm, 29, rfl⟩
abbrev main_v8 : Ref sig .tc := ⟨.hbm, 30, rfl⟩
abbrev main_cst_2 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_cst_3 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_cst_4 : Ref sig .tc := ⟨.hbm, 48, rfl⟩
abbrev main_v24 : Ref sig .tc := ⟨.hbm, 49, rfl⟩
abbrev main_v25 : Ref sig .tc := ⟨.hbm, 50, rfl⟩
abbrev main_cst_5 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_cst_6 : Ref sig .tc := ⟨.hbm, 57, rfl⟩
abbrev main_v31 : Ref sig .tc := ⟨.hbm, 58, rfl⟩
abbrev main_v32 : Ref sig .tc := ⟨.hbm, 59, rfl⟩
abbrev main_cst_7 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_cst_8 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_values : Ref sig .tc := ⟨.hbm, 81, rfl⟩
abbrev main_indices : Ref sig .tc := ⟨.hbm, 82, rfl⟩
abbrev main_cst_9 : Ref sig .tc := ⟨.hbm, 83, rfl⟩
abbrev main_v52 : Ref sig .tc := ⟨.hbm, 84, rfl⟩
abbrev main_cst_10 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_cst_11 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_cst_12 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_c : Ref sig .tc := ⟨.hbm, 101, rfl⟩
abbrev main_v66 : Ref sig .tc := ⟨.hbm, 102, rfl⟩
abbrev main_v67 : Ref sig .tc := ⟨.hbm, 103, rfl⟩
abbrev main_c_13 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_c_14 : Ref sig .tc := ⟨.hbm, 108, rfl⟩
abbrev main_v71 : Ref sig .tc := ⟨.hbm, 109, rfl⟩
abbrev main_v72 : Ref sig .tc := ⟨.hbm, 110, rfl⟩
abbrev main_c_15 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_cst_16 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_cst_17 : Ref sig .tc := ⟨.hbm, 124, rfl⟩
abbrev main_v84 : Ref sig .tc := ⟨.hbm, 125, rfl⟩
abbrev main_cst_18 : Ref sig .tc := ⟨.hbm, 126, rfl⟩
abbrev main_v85 : Ref sig .tc := ⟨.hbm, 127, rfl⟩
abbrev main_v86 : Ref sig .tc := ⟨.hbm, 128, rfl⟩
abbrev main_cst_19 : Ref sig .tc := ⟨.hbm, 129, rfl⟩
abbrev main_v87 : Ref sig .tc := ⟨.hbm, 130, rfl⟩
abbrev main_cst_20 : Ref sig .tc := ⟨.hbm, 131, rfl⟩
abbrev main_v88 : Ref sig .tc := ⟨.hbm, 132, rfl⟩
abbrev main_v89 : Ref sig .tc := ⟨.hbm, 133, rfl⟩
abbrev main_v90 : Ref sig .tc := ⟨.hbm, 134, rfl⟩
abbrev main_v91 : Ref sig .tc := ⟨.hbm, 135, rfl⟩
abbrev main_v92 : Ref sig .tc := ⟨.hbm, 136, rfl⟩
abbrev main_v93 : Ref sig .tc := ⟨.hbm, 137, rfl⟩
abbrev main_cst_21 : Ref sig .tc := ⟨.hbm, 138, rfl⟩
abbrev main_v94 : Ref sig .tc := ⟨.hbm, 139, rfl⟩
abbrev main_v95 : Ref sig .tc := ⟨.hbm, 140, rfl⟩
abbrev main_v96 : Ref sig .tc := ⟨.hbm, 141, rfl⟩
abbrev main_v97 : Ref sig .tc := ⟨.hbm, 142, rfl⟩
abbrev main_cst_22 : Ref sig .tc := ⟨.hbm, 143, rfl⟩
abbrev main_v98 : Ref sig .tc := ⟨.hbm, 144, rfl⟩
abbrev main_cst_23 : Ref sig .tc := ⟨.hbm, 145, rfl⟩
abbrev main_v99 : Ref sig .tc := ⟨.hbm, 146, rfl⟩
abbrev main_v100 : Ref sig .tc := ⟨.hbm, 147, rfl⟩
abbrev main_cst_24 : Ref sig .tc := ⟨.hbm, 148, rfl⟩
abbrev main_v101 : Ref sig .tc := ⟨.hbm, 149, rfl⟩
abbrev main_v102 : Ref sig .tc := ⟨.hbm, 150, rfl⟩
abbrev main_cst_25 : Ref sig .tc := ⟨.hbm, 151, rfl⟩
abbrev main_v103 : Ref sig .tc := ⟨.hbm, 152, rfl⟩
abbrev main_v104 : Ref sig .tc := ⟨.hbm, 153, rfl⟩
abbrev main_v105 : Ref sig .tc := ⟨.hbm, 154, rfl⟩
abbrev main_v106 : Ref sig .tc := ⟨.hbm, 155, rfl⟩
abbrev main_v107 : Ref sig .tc := ⟨.hbm, 156, rfl⟩
abbrev main_cst_26 : Ref sig .tc := ⟨.hbm, 157, rfl⟩
abbrev main_v108 : Ref sig .tc := ⟨.hbm, 158, rfl⟩
abbrev main_v109 : Ref sig .tc := ⟨.hbm, 159, rfl⟩
abbrev main_cst_27 : Ref sig .tc := ⟨.hbm, 160, rfl⟩
abbrev main_v110 : Ref sig .tc := ⟨.hbm, 161, rfl⟩
abbrev main_v111 : Ref sig .tc := ⟨.hbm, 162, rfl⟩
abbrev main_v112 : Ref sig .tc := ⟨.hbm, 163, rfl⟩
abbrev main_v113 : Ref sig .tc := ⟨.hbm, 164, rfl⟩
abbrev main_cst_28 : Ref sig .tc := ⟨.hbm, 165, rfl⟩
abbrev main_v114 : Ref sig .tc := ⟨.hbm, 166, rfl⟩
abbrev main_v115 : Ref sig .tc := ⟨.hbm, 167, rfl⟩
abbrev main_v116 : Ref sig .tc := ⟨.hbm, 168, rfl⟩
abbrev main_v117 : Ref sig .tc := ⟨.hbm, 169, rfl⟩
abbrev main_v118 : Ref sig .tc := ⟨.hbm, 170, rfl⟩
abbrev main_v119 : Ref sig .tc := ⟨.hbm, 171, rfl⟩
abbrev main_v120 : Ref sig .tc := ⟨.hbm, 172, rfl⟩
abbrev main_v121 : Ref sig .tc := ⟨.hbm, 173, rfl⟩
abbrev main_v122 : Ref sig .tc := ⟨.hbm, 174, rfl⟩
abbrev main_v123 : Ref sig .tc := ⟨.hbm, 175, rfl⟩
abbrev main_v124 : Ref sig .tc := ⟨.hbm, 176, rfl⟩
abbrev main_v125 : Ref sig .tc := ⟨.hbm, 177, rfl⟩
abbrev main_v126 : Ref sig .tc := ⟨.hbm, 178, rfl⟩
abbrev main_v127 : Ref sig .tc := ⟨.hbm, 179, rfl⟩
abbrev main_v128 : Ref sig .tc := ⟨.hbm, 180, rfl⟩
abbrev main_v129 : Ref sig .tc := ⟨.hbm, 181, rfl⟩
abbrev main_v130 : Ref sig .tc := ⟨.hbm, 182, rfl⟩
abbrev main_cst_29 : Ref sig .tc := ⟨.hbm, 183, rfl⟩
abbrev main_v131 : Ref sig .tc := ⟨.hbm, 184, rfl⟩
abbrev main_v132 : Ref sig .tc := ⟨.hbm, 185, rfl⟩
abbrev main_v133 : Ref sig .tc := ⟨.hbm, 186, rfl⟩
abbrev main_cst_30 : Ref sig .tc := ⟨.hbm, 187, rfl⟩
abbrev main_v134 : Ref sig .tc := ⟨.hbm, 188, rfl⟩
abbrev main_v135 : Ref sig .tc := ⟨.hbm, 189, rfl⟩
abbrev main_v136 : Ref sig .tc := ⟨.hbm, 190, rfl⟩
abbrev main_v137 : Ref sig .tc := ⟨.hbm, 191, rfl⟩
abbrev main_cst_31 : Ref sig .tc := ⟨.hbm, 192, rfl⟩
abbrev main_v138 : Ref sig .tc := ⟨.hbm, 193, rfl⟩
abbrev main_v139 : Ref sig .tc := ⟨.hbm, 194, rfl⟩
abbrev main_cst_32 : Ref sig .tc := ⟨.hbm, 195, rfl⟩
abbrev main_v140 : Ref sig .tc := ⟨.hbm, 196, rfl⟩
abbrev main_v141 : Ref sig .tc := ⟨.hbm, 197, rfl⟩
abbrev main_v142 : Ref sig .tc := ⟨.hbm, 198, rfl⟩
abbrev main_v143 : Ref sig .tc := ⟨.hbm, 199, rfl⟩
abbrev main_v144 : Ref sig .tc := ⟨.hbm, 200, rfl⟩
abbrev main_cst_33 : Ref sig .tc := ⟨.hbm, 201, rfl⟩
abbrev main_v145 : Ref sig .tc := ⟨.hbm, 202, rfl⟩
abbrev main_v146 : Ref sig .tc := ⟨.hbm, 203, rfl⟩
abbrev main_cst_34 : Ref sig .tc := ⟨.hbm, 204, rfl⟩
abbrev main_v147 : Ref sig .tc := ⟨.hbm, 205, rfl⟩
abbrev main_v148 : Ref sig .tc := ⟨.hbm, 206, rfl⟩
abbrev main_v149 : Ref sig .tc := ⟨.hbm, 207, rfl⟩
abbrev main_v150 : Ref sig .tc := ⟨.hbm, 208, rfl⟩
abbrev main_cst_35 : Ref sig .tc := ⟨.hbm, 209, rfl⟩
abbrev main_v151 : Ref sig .tc := ⟨.hbm, 210, rfl⟩
abbrev main_v152 : Ref sig .tc := ⟨.hbm, 211, rfl⟩
abbrev main_v153 : Ref sig .tc := ⟨.hbm, 212, rfl⟩
abbrev main_v154 : Ref sig .tc := ⟨.hbm, 213, rfl⟩
abbrev main_v155 : Ref sig .tc := ⟨.hbm, 214, rfl⟩
abbrev main_v156 : Ref sig .tc := ⟨.hbm, 215, rfl⟩
abbrev main_v157 : Ref sig .tc := ⟨.hbm, 216, rfl⟩
abbrev main_v158 : Ref sig .tc := ⟨.hbm, 217, rfl⟩
abbrev main_v159 : Ref sig .tc := ⟨.hbm, 218, rfl⟩
abbrev main_v160 : Ref sig .tc := ⟨.hbm, 219, rfl⟩
abbrev main_v161 : Ref sig .tc := ⟨.hbm, 220, rfl⟩
abbrev main_v162 : Ref sig .tc := ⟨.hbm, 221, rfl⟩
abbrev main_v163 : Ref sig .tc := ⟨.hbm, 222, rfl⟩
abbrev main_v164 : Ref sig .tc := ⟨.hbm, 223, rfl⟩
abbrev main_v165 : Ref sig .tc := ⟨.hbm, 224, rfl⟩
abbrev main_cst_36 : Ref sig .tc := ⟨.hbm, 225, rfl⟩
abbrev main_v166 : Ref sig .tc := ⟨.hbm, 226, rfl⟩
abbrev main_v167 : Ref sig .tc := ⟨.hbm, 227, rfl⟩
abbrev main_v168 : Ref sig .tc := ⟨.hbm, 228, rfl⟩
abbrev main_cst_37 : Ref sig .tc := ⟨.hbm, 229, rfl⟩
abbrev main_v169 : Ref sig .tc := ⟨.hbm, 230, rfl⟩
abbrev main_v170 : Ref sig .tc := ⟨.hbm, 231, rfl⟩
abbrev main_v171 : Ref sig .tc := ⟨.hbm, 232, rfl⟩
abbrev main_v172 : Ref sig .tc := ⟨.hbm, 233, rfl⟩
abbrev main_cst_38 : Ref sig .tc := ⟨.hbm, 234, rfl⟩
abbrev main_v173 : Ref sig .tc := ⟨.hbm, 235, rfl⟩
abbrev main_v174 : Ref sig .tc := ⟨.hbm, 236, rfl⟩
abbrev main_cst_39 : Ref sig .tc := ⟨.hbm, 237, rfl⟩
abbrev main_v175 : Ref sig .tc := ⟨.hbm, 238, rfl⟩
abbrev main_v176 : Ref sig .tc := ⟨.hbm, 239, rfl⟩
abbrev main_v177 : Ref sig .tc := ⟨.hbm, 240, rfl⟩
abbrev main_v178 : Ref sig .tc := ⟨.hbm, 241, rfl⟩
abbrev main_v179 : Ref sig .tc := ⟨.hbm, 242, rfl⟩
abbrev main_cst_40 : Ref sig .tc := ⟨.hbm, 243, rfl⟩
abbrev main_v180 : Ref sig .tc := ⟨.hbm, 244, rfl⟩
abbrev main_v181 : Ref sig .tc := ⟨.hbm, 245, rfl⟩
abbrev main_cst_41 : Ref sig .tc := ⟨.hbm, 246, rfl⟩
abbrev main_v182 : Ref sig .tc := ⟨.hbm, 247, rfl⟩
abbrev main_v183 : Ref sig .tc := ⟨.hbm, 248, rfl⟩
abbrev main_v184 : Ref sig .tc := ⟨.hbm, 249, rfl⟩
abbrev main_v185 : Ref sig .tc := ⟨.hbm, 250, rfl⟩
abbrev main_cst_42 : Ref sig .tc := ⟨.hbm, 251, rfl⟩
abbrev main_v186 : Ref sig .tc := ⟨.hbm, 252, rfl⟩
abbrev main_v187 : Ref sig .tc := ⟨.hbm, 253, rfl⟩
abbrev main_v188 : Ref sig .tc := ⟨.hbm, 254, rfl⟩
abbrev main_v189 : Ref sig .tc := ⟨.hbm, 255, rfl⟩
abbrev main_v190 : Ref sig .tc := ⟨.hbm, 256, rfl⟩
abbrev main_v191 : Ref sig .tc := ⟨.hbm, 257, rfl⟩
abbrev main_v192 : Ref sig .tc := ⟨.hbm, 258, rfl⟩
abbrev main_v193 : Ref sig .tc := ⟨.hbm, 259, rfl⟩
abbrev main_v194 : Ref sig .tc := ⟨.hbm, 260, rfl⟩
abbrev main_v195 : Ref sig .tc := ⟨.hbm, 261, rfl⟩
abbrev main_v196 : Ref sig .tc := ⟨.hbm, 262, rfl⟩
abbrev main_v197 : Ref sig .tc := ⟨.hbm, 263, rfl⟩
abbrev main_v198 : Ref sig .tc := ⟨.hbm, 264, rfl⟩
abbrev main_v199 : Ref sig .tc := ⟨.hbm, 265, rfl⟩
abbrev main_v200 : Ref sig .tc := ⟨.hbm, 266, rfl⟩
abbrev main_v201 : Ref sig .tc := ⟨.hbm, 267, rfl⟩
abbrev main_v202 : Ref sig .tc := ⟨.hbm, 268, rfl⟩
abbrev main_v203 : Ref sig .tc := ⟨.hbm, 269, rfl⟩
abbrev main_cst_43 : Ref sig .tc := ⟨.hbm, 270, rfl⟩
abbrev main_v204 : Ref sig .tc := ⟨.hbm, 271, rfl⟩
abbrev main_v205 : Ref sig .tc := ⟨.hbm, 272, rfl⟩
abbrev main_v206 : Ref sig .tc := ⟨.hbm, 273, rfl⟩
abbrev main_v207 : Ref sig .tc := ⟨.hbm, 274, rfl⟩

abbrev nD : Nat := 1
abbrev τ : Topo := Topo.v7x

variable {F : FTy → Type} [FloatOps F]
-- ==== Proof.Alg.lean ====
/-
  The algebra over the extended reals that the value claim rests on: a row's normalisation by a reciprocal square root is the one
  by a division, and its entries are real whatever the row; a real scale and any shift fold into the weights that follow; the two
  spellings of the activation agree; the float words that the two programs spell as numbers.
-/
module

public import Idealize.ShloMosaic.PureOps.Ideal
public import Idealize.ShloMosaic.PureOps.Ideal.Laws
public import Idealize.ShloMosaic.Lib.IdealHost

@[expose] public section

noncomputable section

namespace Cert.Alg

open Idealize.ShloMosaic

/-! ## The float words -/

/-- The word of the small constant under the square root. -/
def eps : EReal := Ideal.ofBits .f32 0x3727C5AC#32

theorem ofBits_768 : Ideal.ofBits .f32 0x44400000#32 = ((768 : ℝ) : EReal) := by
  simp [Ideal.ofBits, Ideal.ieee, -EReal.coe_mul]; norm_num
theorem ofBits_256 : Ideal.ofBits .f32 0x43800000#32 = ((256 : ℝ) : EReal) := by
  simp [Ideal.ofBits, Ideal.ieee, -EReal.coe_mul]; norm_num
theorem ofBits_128 : Ideal.ofBits .f32 0x43000000#32 = ((128 : ℝ) : EReal) := by
  simp [Ideal.ofBits, Ideal.ieee, -EReal.coe_mul]; norm_num
theorem ofBits_16384 : Ideal.ofBits .f32 0x46800000#32 = ((16384 : ℝ) : EReal) := by
  simp [Ideal.ofBits, Ideal.ieee, -EReal.coe_mul]; norm_num
theorem ofBits_inv16384 : Ideal.ofBits .f32 0x38800000#32 = ((1 / 16384 : ℝ) : EReal) := by
  simp [Ideal.ofBits, Ideal.ieee, -EReal.coe_mul]; norm_num
theorem ofBits_neg_inf : Ideal.ofBits .f32 0xFF800000#32 = ⊥ := by
  simp [Ideal.ofBits, Ideal.ieee]
theorem ofBits_inf : Ideal.ofBits .f32 0x7F800000#32 = ⊤ := by
  simp [Ideal.ofBits, Ideal.ieee]
theorem ofBits_one : Ideal.ofBits .f32 0x3F800000#32 = 1 := Ideal.ofBits_one_f32
theorem ofBits_zero : Ideal.ofBits .f32 0x00000000#32 = 0 := Ideal.ofBits_zero_f32
/-- The small constant is a positive real. -/
theorem eps_pos : ∃ e : ℝ, 0 < e ∧ eps = (e : EReal) := by
  unfold eps
  refine ⟨_, ?_, by simp [Ideal.ofBits, Ideal.ieee, -EReal.coe_mul]; rfl⟩
  positivity

/-! ## Real entries -/

/-- An extended real that is a real. -/
def IsR (x : EReal) : Prop := ∃ r : ℝ, x = (r : EReal)

theorem IsR.of_ne {x : EReal} (h : x ≠ ⊥) (h' : x ≠ ⊤) : IsR x := ⟨x.toReal, (EReal.coe_toReal h' h).symm⟩
theorem IsR.add {x y : EReal} : IsR x → IsR y → IsR (x + y) := by
  rintro ⟨a, rfl⟩ ⟨b, rfl⟩; exact ⟨a + b, (EReal.coe_add a b).symm⟩
theorem IsR.sub {x y : EReal} : IsR x → IsR y → IsR (x - y) := by
  rintro ⟨a, rfl⟩ ⟨b, rfl⟩; exact ⟨a - b, (EReal.coe_sub a b).symm⟩
theorem IsR.mul {x y : EReal} : IsR x → IsR y → IsR (x * y) := by
  rintro ⟨a, rfl⟩ ⟨b, rfl⟩; exact ⟨a * b, (EReal.coe_mul a b).symm⟩
theorem IsR.sum {ι : Type} (s : Finset ι) (f : ι → EReal) (h : ∀ i, IsR (f i)) : IsR (∑ i ∈ s, f i) := by
  classical
  induction s using Finset.induction_on with
  | empty => exact ⟨0, by simp⟩
  | insert a s ha ih => rw [Finset.sum_insert ha]; exact (h a).add ih
theorem IsR.ne_top {x : EReal} : IsR x → x ≠ ⊤ := by rintro ⟨a, rfl⟩; exact EReal.coe_ne_top a
theorem IsR.ne_bot {x : EReal} : IsR x → x ≠ ⊥ := by rintro ⟨a, rfl⟩; exact EReal.coe_ne_bot a

/-! ## The normalisation of a row -/

variable {n : ℕ}

/-- A row's mean. -/
def mean (N : EReal) (r : Fin n → EReal) : EReal := Ideal.div (∑ k, r k) N
/-- A row's variance. -/
def var (N : EReal) (r : Fin n → EReal) : EReal := Ideal.div (∑ k, (r k - mean N r) * (r k - mean N r)) N
/-- A row's entry normalised, by the reciprocal square root. -/
def nrm (N : EReal) (r : Fin n → EReal) (d : Fin n) : EReal := (r d - mean N r) * Ideal.rsqrt (var N r + eps)
/-- A row's entry normalised, by the division. -/
def nrmH (N : EReal) (r : Fin n → EReal) (d : Fin n) : EReal := Ideal.div (r d - mean N r) (Ideal.sqrt (var N r + eps))

theorem mul_self_nonneg' (x : EReal) : 0 ≤ x * x := by
  induction x using EReal.rec with
  | bot => simp
  | top => simp
  | coe r => rw [← EReal.coe_mul]; exact_mod_cast mul_self_nonneg r

/-- A row's variance is nonnegative; a real variance has every entry minus the mean real. -/
theorem var_cases {c : ℝ} (hc : 0 < c) (r : Fin n → EReal) :
    var (c : EReal) r = ⊤ ∨ (∃ v : ℝ, 0 ≤ v ∧ var (c : EReal) r = (v : EReal)) ∧ ∀ k, IsR (r k - mean (c : EReal) r) := by
  have hS : ∀ k, 0 ≤ (r k - mean (c : EReal) r) * (r k - mean (c : EReal) r) := fun k => mul_self_nonneg' _
  have hS' : 0 ≤ ∑ k, (r k - mean (c : EReal) r) * (r k - mean (c : EReal) r) := Finset.sum_nonneg fun k _ => hS k
  have hc' : 0 < 1 / c := one_div_pos.mpr hc
  unfold var
  rw [Ideal.div_coe hc.ne']
  by_cases h : (∑ k, (r k - mean (c : EReal) r) * (r k - mean (c : EReal) r)) = ⊤
  · left; rw [h]; exact EReal.top_mul_coe_of_pos hc'
  · right
    obtain ⟨s, hs⟩ := IsR.of_ne (fun hb => by rw [hb] at hS'; exact absurd hS' (by simp)) h
    refine ⟨⟨s * (1 / c), ?_, by rw [hs, EReal.coe_mul]⟩, fun k => ?_⟩
    · rw [hs] at hS'
      exact mul_nonneg (by exact_mod_cast hS') hc'.le
    · have hk := Finset.single_le_sum (f := fun k => (r k - mean (c : EReal) r) * (r k - mean (c : EReal) r)) (fun i _ => hS i) (Finset.mem_univ k)
      have hlt : (r k - mean (c : EReal) r) * (r k - mean (c : EReal) r) ≠ ⊤ := fun ht => h (top_le_iff.mp (ht ▸ hk))
      refine IsR.of_ne (fun hb => hlt ?_) (fun hb => hlt ?_)
      · rw [hb]; rfl
      · rw [hb]; rfl

/-- The two normalisations agree, whatever the row. -/
theorem nrmH_eq {c : ℝ} (hc : 0 < c) (r : Fin n → EReal) (d : Fin n) : nrmH (c : EReal) r d = nrm (c : EReal) r d := by
  obtain ⟨e, he, hE⟩ := eps_pos
  unfold nrmH nrm
  rcases var_cases hc r with h | ⟨⟨v, hv, h⟩, -⟩
  · rw [h, hE, EReal.top_add_coe, Ideal.sqrt_top, Ideal.rsqrt_top, mul_zero]
    simp [Ideal.div]
  · have hq : 0 < v + e := by linarith
    rw [h, hE, ← EReal.coe_add, Ideal.sqrt_coe, Ideal.rsqrt_coe, if_neg hq.le.not_gt, if_neg hq.le.not_gt, if_neg hq.ne',
      Ideal.div_coe (Real.sqrt_pos.mpr hq).ne', one_div]

/-- A normalised entry is real, whatever the row. -/
theorem nrm_isR {c : ℝ} (hc : 0 < c) (r : Fin n → EReal) (d : Fin n) : IsR (nrm (c : EReal) r d) := by
  obtain ⟨e, he, hE⟩ := eps_pos
  unfold nrm
  rcases var_cases hc r with h | ⟨⟨v, hv, h⟩, hr⟩
  · rw [h, hE, EReal.top_add_coe, Ideal.rsqrt_top, mul_zero]; exact ⟨0, rfl⟩
  · have hq : 0 < v + e := by linarith
    rw [h, hE, ← EReal.coe_add, Ideal.rsqrt_coe, if_neg hq.le.not_gt, if_neg hq.ne']
    exact (hr d).mul ⟨_, rfl⟩

/-! ## Folding a scale and a shift into the weights -/

/-- A real entry scaled and shifted, times a real weight: the shift may be infinite. -/
theorem fold_mul {z g b w : EReal} (hz : IsR z) (hg : IsR g) (hw : IsR w) : (z * g + b) * w = z * (g * w) + b * w := by
  obtain ⟨z, rfl⟩ := hz; obtain ⟨g, rfl⟩ := hg; obtain ⟨w, rfl⟩ := hw
  rw [← EReal.coe_mul, ← EReal.coe_mul, ← EReal.coe_mul]
  induction b using EReal.rec with
  | bot =>
    rw [EReal.add_bot]
    rcases lt_trichotomy w 0 with h | h | h
    · rw [EReal.bot_mul_coe_of_neg h, EReal.coe_add_top]
    · subst h; simp
    · rw [EReal.bot_mul_coe_of_pos h, EReal.add_bot]
  | top =>
    rw [EReal.coe_add_top]
    rcases lt_trichotomy w 0 with h | h | h
    · rw [EReal.top_mul_coe_of_neg h, EReal.add_bot]
    · subst h; simp
    · rw [EReal.top_mul_coe_of_pos h, EReal.coe_add_top]
  | coe b =>
    rw [← EReal.coe_add, ← EReal.coe_mul, ← EReal.coe_mul, ← EReal.coe_add]
    congr 1; ring

/-- A dot product of scaled and shifted real entries, plus a bias, is the dot with the scaled weights plus the folded bias. -/
theorem fold_dot {z g b w : Fin n → EReal} {c : EReal} (hz : ∀ k, IsR (z k)) (hg : ∀ k, IsR (g k)) (hw : ∀ k, IsR (w k)) :
    (∑ k, (z k * g k + b k) * w k) + c = (∑ k, z k * (g k * w k)) + ((∑ k, b k * w k) + c) := by
  rw [← add_assoc, ← Finset.sum_add_distrib]
  exact congrArg (· + c) (Finset.sum_congr rfl fun k _ => fold_mul (hz k) (hg k) (hw k))

/-! ## The activation -/

/-- The activation, by the error function. -/
def gelu (h : EReal) : EReal :=
  (h * Ideal.ofBits .f32 0x3F000000#32) * (Ideal.ofBits .f32 0x3F800000#32 + Ideal.erf (h * Ideal.ofBits .f32 0x3F3504F3#32))

/-- The activation by the complementary error function is the same. -/
theorem gelu_erfc (h : EReal) :
    (Ideal.ofBits .f32 0x3F000000#32 * h) * Ideal.erfc (-h * Ideal.ofBits .f32 0x3F3504F3#32) = gelu h := by
  unfold gelu
  rw [ofBits_one, neg_mul, Ideal.erfc_neg, mul_comm h (Ideal.ofBits .f32 0x3F000000#32)]

end Cert.Alg
-- ==== Proof.Router.lean ====
/-
  The choice of two experts on one row of logits: a row's best position is its largest entry, the lowest position among equals.
  A stable descending sort's first position is the best, its second the best of the rest; the smallest position at which a row meets
  its maximum is the best too. So a program that sorts and a program that masks and searches again choose alike.
-/
module

public import proofs.«01_k».proof.Proof.Alg
public import Idealize.ShloMosaic.Lib.SortFacts
public import Idealize.ShloMosaic.Lib.PlanTiles.StableSort

@[expose] public section

noncomputable section

namespace Cert.Router

open Idealize.ShloMosaic Cert.Alg

variable {n : ℕ}

/-- Position `i` is the row's best: every other entry is smaller, or equal and later. -/
def Top (x : Fin n → EReal) (i : Fin n) : Prop := ∀ k, k ≠ i → x k < x i ∨ x k = x i ∧ i < k

/-- A row has one best position. -/
theorem Top.unique {x : Fin n → EReal} {i j : Fin n} (hi : Top x i) (hj : Top x j) : i = j := by
  by_contra h
  rcases hi j (Ne.symm h) with h1 | ⟨h1, h2⟩ <;> rcases hj i h with h3 | ⟨h3, h4⟩
  · exact lt_asymm h1 h3
  · exact h1.ne h3.symm
  · exact h3.ne h1.symm
  · exact lt_asymm h2 h4

/-- The best position holds the largest entry. -/
theorem Top.le {x : Fin n → EReal} {i : Fin n} (hi : Top x i) (k : Fin n) : x k ≤ x i := by
  by_cases h : k = i
  · rw [h]
  · rcases hi k h with h | ⟨h, -⟩
    · exact h.le
    · exact h.le

/-- Before the best position every entry is smaller. -/
theorem Top.lt {x : Fin n → EReal} {i : Fin n} (hi : Top x i) {k : Fin n} (hk : k < i) : x k < x i := by
  rcases hi k hk.ne with h | ⟨-, h⟩
  · exact h
  · exact absurd h hk.not_gt

/-! ## The sort -/

/-- "Goes before" in a descending sort of a row. -/
def before (x : Fin n → EReal) (a b : Fin n) : Bool := decide (x b < x a)

/-- How many entries lie below an entry: a natural number that orders as the entries do. -/
def rank (x : Fin n → EReal) (i : Fin n) : ℕ := (Finset.univ.filter fun k => x k < x i).card

theorem rank_mono {x : Fin n → EReal} {a b : Fin n} (h : x a ≤ x b) : rank x a ≤ rank x b :=
  Finset.card_le_card fun k hk => by
    rw [Finset.mem_filter] at hk ⊢
    exact ⟨hk.1, hk.2.trans_le h⟩

theorem rank_lt {x : Fin n → EReal} {a b : Fin n} : rank x a < rank x b ↔ x a < x b := by
  refine ⟨fun h => lt_of_not_ge fun hle => absurd (rank_mono hle) (not_le.mpr h), fun h => Finset.card_lt_card ?_⟩
  refine ⟨fun k hk => ?_, fun hs => ?_⟩
  · rw [Finset.mem_filter] at hk ⊢
    exact ⟨hk.1, hk.2.trans h⟩
  · have := hs (Finset.mem_filter.mpr ⟨Finset.mem_univ a, h⟩)
    exact lt_irrefl _ (Finset.mem_filter.mp this).2

theorem rank_eq {x : Fin n → EReal} {a b : Fin n} (h : rank x a = rank x b) : x a = x b :=
  le_antisymm (not_lt.mp fun hl => (rank_lt.mpr hl).ne h.symm) (not_lt.mp fun hl => (rank_lt.mpr hl).ne h)

theorem before_eq (x : Fin n → EReal) : before x = fun a b => decide (rank x b < rank x a) := by
  funext a b
  unfold before
  rw [decide_eq_decide, rank_lt]

/-- A sorted position's entry is at least a later one's, and comes from a lower position if they are equal. -/
theorem sorted_lex (x : Fin n) (r : Fin n → EReal) (y : Fin n) (h : x < y) :
    r (sortedFrom (before r) y) < r (sortedFrom (before r) x)
      ∨ r (sortedFrom (before r) y) = r (sortedFrom (before r) x) ∧ sortedFrom (before r) x < sortedFrom (before r) y := by
  have hp := List.pairwise_iff_get.mp (PlanTiles.pairwise_stableSort_lex (rank r) (· < ·) (List.finRange n) (List.pairwise_lt_finRange n))
  rw [← before_eq] at hp
  have := hp (x.cast (length_sortPositions n (before r)).symm) (y.cast (length_sortPositions n (before r)).symm) h
  rcases this with h1 | ⟨h1, h2⟩
  · exact Or.inl (rank_lt.mp h1)
  · exact Or.inr ⟨(rank_eq h1).symm, h2⟩

/-- The first choice: the sort's first position. -/
def fst (x : Fin 8 → EReal) : Fin 8 := sortedFrom (before x) 0
/-- The second choice: the sort's second position. -/
def snd (x : Fin 8 → EReal) : Fin 8 := sortedFrom (before x) 1

theorem snd_ne_fst (x : Fin 8 → EReal) : snd x ≠ fst x := fun h => by
  have := sortedFrom_injective (before x) h
  exact absurd this (by decide)

/-- The first choice is the best position. -/
theorem top_fst (x : Fin 8 → EReal) : Top x (fst x) := fun k hk => by
  obtain ⟨j, rfl⟩ := sortedFrom_surjective (before x) k
  have hj : (0 : Fin 8) < j := by
    rcases Fin.eq_zero_or_eq_succ j with rfl | ⟨i, rfl⟩
    · exact absurd rfl hk
    · exact Fin.succ_pos i
  exact sorted_lex 0 x j hj

/-- The row with the first choice taken out. -/
def rest (x : Fin 8 → EReal) : Fin 8 → EReal := fun k => if k = fst x then ⊥ else x k

/-- The second choice is the best position of the rest, where every entry is real. -/
theorem top_snd (x : Fin 8 → EReal) (hx : ∀ k, IsR (x k)) : Top (rest x) (snd x) := fun k hk => by
  have h2 : rest x (snd x) = x (snd x) := if_neg (snd_ne_fst x)
  rw [h2]
  by_cases h1 : k = fst x
  · left
    rw [rest, if_pos h1]
    exact bot_lt_iff_ne_bot.mpr (hx _).ne_bot
  · rw [rest, if_neg h1]
    obtain ⟨j, rfl⟩ := sortedFrom_surjective (before x) k
    have hj : (1 : Fin 8) < j := by
      have h0 : j ≠ 0 := fun h => h1 (by rw [h]; rfl)
      have h1' : j ≠ 1 := fun h => hk (by rw [h]; rfl)
      omega
    exact sorted_lex 1 x j hj

/-! ## The maximum, and the smallest position that meets it -/

/-- The largest of a row, from −∞, is the best position's entry. -/
theorem fold_max {x : Fin n → EReal} {i : Fin n} (h : Top x i) : (Finset.univ : Finset (Fin n)).fold max ⊥ x = x i :=
  le_antisymm ((Finset.fold_max_le _).mpr ⟨bot_le, fun k _ => h.le k⟩)
    ((Finset.le_fold_max _).mpr (Or.inr ⟨i, Finset.mem_univ i, le_rfl⟩))

/-- The smaller word's integer is the smaller integer. -/
theorem toInt_minsi (a b : BitVec 32) : (IntOp.minsi a b).toInt = min a.toInt b.toInt := by
  unfold IntOp.minsi
  split
  · next h => exact (min_eq_left (by rw [BitVec.slt_iff_toInt_lt] at h; exact h.le)).symm
  · next h => exact (min_eq_right (by rw [BitVec.slt_iff_toInt_lt] at h; exact not_lt.mp h)).symm

/-- The word of a position among eight. -/
def word (i : Fin 8) : BitVec 32 := BitVec.ofNat 32 i.val

theorem word_inj {i j : Fin 8} : word i = word j ↔ i = j := by revert i j; decide

theorem word_toInt (i : Fin 8) : (word i).toInt = i.val := by revert i; decide

/-- The smallest word among the positions that meet the row's maximum (the number of positions elsewhere) is the best position's. -/
theorem fold_minsi {x : Fin 8 → EReal} {i : Fin 8} (h : Top x i) :
    (Finset.univ : Finset (Fin 8)).fold IntOp.minsi 2147483647#32 (fun k => if x k = x i then word k else 8#32) = word i := by
  apply BitVec.toInt_inj.mp
  rw [← Finset.fold_hom (op' := min) (m := BitVec.toInt) toInt_minsi]
  refine le_antisymm ((Finset.fold_min_le _).mpr (Or.inr ⟨i, Finset.mem_univ i, ?_⟩)) ((Finset.le_fold_min _).mpr ⟨?_, fun k _ => ?_⟩)
  · simp
  · rw [word_toInt, show (2147483647#32 : BitVec 32).toInt = 2147483647 from by decide]; omega
  · show (word i).toInt ≤ (if x k = x i then word k else 8#32).toInt
    split
    · next hk =>
      rw [word_toInt, word_toInt]
      have : ¬ k < i := fun hlt => (h.lt hlt).ne hk
      exact_mod_cast not_lt.mp this
    · rw [word_toInt, show (8#32 : BitVec 32).toInt = 8 from by decide]; omega

end Cert.Router
-- ==== Proof.Spec.lean ====
/-
  What both programs compute of one row, as plain functions over the extended reals: the row normalised twice, its logits, the
  gates of its two chosen experts, its router probabilities, one expert's answer, and the gated sum of the eight.
-/
module

public import proofs.«01_k».proof.Proof.Router

@[expose] public section

noncomputable section

namespace Cert.Spec

open Idealize.ShloMosaic Cert.Alg Cert.Router

/-- The row normalised, scaled and shifted, and normalised again. -/
def znr (g b x : Fin 768 → EReal) (d : Fin 768) : EReal :=
  nrm ((768 : ℝ) : EReal) (fun k => nrm ((768 : ℝ) : EReal) x k * g k + b k) d

/-- The row's logits, from weights that hold the scale and a bias that holds the shift. -/
def lgr (z : Fin 768 → EReal) (w : Fin 768 → Fin 8 → EReal) (c : Fin 8 → EReal) (e : Fin 8) : EReal := (∑ k, z k * w k e) + c e

/-- The exponential of the second largest logit minus the largest. -/
def gap (L : Fin 8 → EReal) : EReal := Ideal.exp (L (snd L) - L (fst L))

/-- The gates of a row: at the two chosen experts, zero elsewhere. -/
def gate (L : Fin 8 → EReal) (e : Fin 8) : EReal :=
  (if e = fst L then Ideal.div 1 (1 + gap L) else 0) + (if e = snd L then Ideal.div (gap L) (1 + gap L) else 0)

/-- One where a row chose an expert, zero elsewhere. -/
def hit (L : Fin 8 → EReal) (e : Fin 8) : EReal := (if e = fst L then 1 else 0) + (if e = snd L then 1 else 0)

/-- The router probabilities of a row. -/
def prob (L : Fin 8 → EReal) (e : Fin 8) : EReal := Ideal.div (Ideal.exp (L e - L (fst L))) (∑ k, Ideal.exp (L k - L (fst L)))

/-- A layer's activations from a row, weights and a bias. -/
def layer {n m : ℕ} (z : Fin n → EReal) (w : Fin n → Fin m → EReal) (c : Fin m → EReal) (j : Fin m) : EReal :=
  gelu ((∑ k, z k * w k j) + c j)

/-- One expert's answer on a normalised row. -/
def expert (z : Fin 768 → EReal) (w1 : Fin 768 → Fin 256 → EReal) (c1 : Fin 256 → EReal) (w2 : Fin 256 → Fin 128 → EReal)
    (c2 w3 : Fin 128 → EReal) (c3 : EReal) : EReal :=
  (∑ k, nrm ((128 : ℝ) : EReal) (layer (nrm ((256 : ℝ) : EReal) (layer z w1 c1)) w2 c2) k * w3 k) + c3

/-! ## The nineteen arguments, and what the programs compute of them -/

/-- The arguments as plain tables. -/
structure Args where
  x : Fin 16384 → Fin 768 → EReal
  g : Fin 768 → EReal
  b : Fin 768 → EReal
  rg : Fin 768 → EReal
  rb : Fin 768 → EReal
  W : Fin 768 → Fin 8 → EReal
  br : Fin 8 → EReal
  g1 : Fin 8 → Fin 768 → EReal
  b1 : Fin 8 → Fin 768 → EReal
  W1 : Fin 8 → Fin 768 → Fin 256 → EReal
  c1 : Fin 8 → Fin 256 → EReal
  g2 : Fin 8 → Fin 256 → EReal
  b2 : Fin 8 → Fin 256 → EReal
  W2 : Fin 8 → Fin 256 → Fin 128 → EReal
  c2 : Fin 8 → Fin 128 → EReal
  g3 : Fin 8 → Fin 128 → EReal
  b3 : Fin 8 → Fin 128 → EReal
  W3 : Fin 8 → Fin 128 → EReal
  c3 : Fin 8 → EReal

namespace Args

/-- The scales, the weights, and the router's shift and bias are real. -/
structure Real (A : Args) : Prop where
  rg : ∀ k, IsR (A.rg k)
  rb : ∀ k, IsR (A.rb k)
  W : ∀ k e, IsR (A.W k e)
  br : ∀ e, IsR (A.br e)
  g1 : ∀ e k, IsR (A.g1 e k)
  W1 : ∀ e k j, IsR (A.W1 e k j)
  g2 : ∀ e k, IsR (A.g2 e k)
  W2 : ∀ e k j, IsR (A.W2 e k j)
  g3 : ∀ e k, IsR (A.g3 e k)
  W3 : ∀ e k, IsR (A.W3 e k)

variable (A : Args)

/-- The scale folded into the router's weights. -/
def fW (k : Fin 768) (e : Fin 8) : EReal := A.rg k * A.W k e
/-- The shift folded into the router's bias. -/
def fbr (e : Fin 8) : EReal := (∑ k, A.rb k * A.W k e) + A.br e
/-- The first scale folded into an expert's first weights. -/
def fW1 (e : Fin 8) (k : Fin 768) (j : Fin 256) : EReal := A.g1 e k * A.W1 e k j
/-- The first shift folded into an expert's first bias. -/
def fc1 (e : Fin 8) (j : Fin 256) : EReal := (∑ k, A.b1 e k * A.W1 e k j) + A.c1 e j
/-- The second scale folded into an expert's second weights. -/
def fW2 (e : Fin 8) (k : Fin 256) (j : Fin 128) : EReal := A.g2 e k * A.W2 e k j
/-- The second shift folded into an expert's second bias. -/
def fc2 (e : Fin 8) (j : Fin 128) : EReal := (∑ k, A.b2 e k * A.W2 e k j) + A.c2 e j
/-- The third scale folded into an expert's last weights. -/
def fW3 (e : Fin 8) (k : Fin 128) : EReal := A.g3 e k * A.W3 e k
/-- The third shift folded into an expert's last bias. -/
def fc3 (e : Fin 8) : EReal := (∑ k, A.b3 e k * A.W3 e k) + A.c3 e

/-- A token's row normalised twice. -/
def z (t : Fin 16384) : Fin 768 → EReal := znr A.g A.b (A.x t)
/-- A token's logits. -/
def L (t : Fin 16384) : Fin 8 → EReal := lgr (A.z t) A.fW A.fbr
/-- Expert `e`'s answer on a token. -/
def ex (t : Fin 16384) (e : Fin 8) : EReal := expert (A.z t) (A.fW1 e) (A.fc1 e) (A.fW2 e) (A.fc2 e) (A.fW3 e) (A.fc3 e)
/-- A token's output. -/
def y (t : Fin 16384) : EReal := ∑ e, A.ex t e * gate (A.L t) e
/-- The fraction of the tokens that chose an expert (of one choice each). -/
def frac (e : Fin 8) : EReal := (∑ t, hit (A.L t) e) * ((1 / 16384 : ℝ) : EReal)
/-- The mean router probability of an expert. -/
def pmean (e : Fin 8) : EReal := (∑ t, prob (A.L t) e) * ((1 / 16384 : ℝ) : EReal)

theorem z_isR (t : Fin 16384) (k : Fin 768) : IsR (A.z t k) := by
  unfold z znr
  exact nrm_isR (by norm_num) _ k

/-- Logits are real where the router's scale, shift, weights and bias are. -/
theorem L_isR {A : Args} (h : A.Real) (t : Fin 16384) (e : Fin 8) : IsR (A.L t e) :=
  (IsR.sum _ _ fun k => (A.z_isR t k).mul ((h.rg k).mul (h.W k e))).add ((IsR.sum _ _ fun k => (h.rb k).mul (h.W k e)).add (h.br e))

end Args

end Cert.Spec
-- ==== Proof.Blocks.lean ====
/-
  The kernel's body, case by case, as a few named computations on a block of 512 rows, over any float type: the normalisation,
  the activation, the logits, the two choices and their gates, the counts and probabilities, and the gated sum of eight experts.
-/
module

public import proofs.«01_k».proof.Proof.Spec
public import proofs.«01_k».proof.Proof.Gen.KernelIdeal.Value
public import Idealize.ShloMosaic.Lib.Pipeline.Value
public import Idealize.ShloMosaic.Lib.Tactic

@[expose] public section

noncomputable section

namespace Cert.KernelIdeal.Blocks

open Cert.KernelIdeal Cert.KernelIdeal.Gen Idealize.ShloMosaic Idealize.ShloMosaic.TcCoe Idealize.SL.Sem

variable {F : FTy → Type} [FloatOps F] [Named F]

/-! ## The block's computations, over any float type -/

/-- Every row of a block minus its mean, times the reciprocal square root of its variance plus the small constant; `n` is the word of the row's length. -/
def nrmV (N : ℕ) (hr : (⟨2, ![512, N]⟩ : Shape).Reduces [1] S512) (hb : S512x1.Broadcasts ⟨2, ![512, N]⟩) (n : BitVec 32)
    (x : FVec F ⟨2, ![512, N]⟩ .f32) : FVec F ⟨2, ![512, N]⟩ .f32 :=
  mulf (subf x (broadcastTo ⟨2, ![512, N]⟩ (divf (shapeCast S512x1 (multiReduction .add [1] S512 x 0x00000000#32 hr (.inl rfl) rfl) shapeCasts_S512_S512x1) (broadcast S512x1 (Scalar.ofBits .f32 n))) hb))
    (broadcastTo ⟨2, ![512, N]⟩ (rsqrt (addf (divf (shapeCast S512x1 (multiReduction .add [1] S512
      (mulf (subf x (broadcastTo ⟨2, ![512, N]⟩ (divf (shapeCast S512x1 (multiReduction .add [1] S512 x 0x00000000#32 hr (.inl rfl) rfl) shapeCasts_S512_S512x1) (broadcast S512x1 (Scalar.ofBits .f32 n))) hb))
        (subf x (broadcastTo ⟨2, ![512, N]⟩ (divf (shapeCast S512x1 (multiReduction .add [1] S512 x 0x00000000#32 hr (.inl rfl) rfl) shapeCasts_S512_S512x1) (broadcast S512x1 (Scalar.ofBits .f32 n))) hb)))
      0x00000000#32 hr (.inl rfl) rfl) shapeCasts_S512_S512x1) (broadcast S512x1 (Scalar.ofBits .f32 n))) (broadcast S512x1 (Scalar.ofBits .f32 0x3727C5AC#32)))) hb)

/-- The activation of a block, by the error function. -/
def geluV (S : Shape) (h : FVec F S .f32) : FVec F S .f32 :=
  mulf (mulf h (broadcast S (Scalar.ofBits .f32 0x3F000000#32)))
    (addf (broadcast S (Scalar.ofBits .f32 0x3F800000#32)) (erf (mulf h (broadcast S (Scalar.ofBits .f32 0x3F3504F3#32)))))

/-- The normalised input rows with scale and shift, normalised again. -/
def znV (x0 x1 : Vec F S1x768 .f32) (x10 : Vec F S512x768 .f32) : FVec F S512x768 .f32 :=
  nrmV 768 reduces_S512x768_S512 broadcasts_S512x1_S512x768 0x44400000#32
    (addf (mulf (nrmV 768 reduces_S512x768_S512 broadcasts_S512x1_S512x768 0x44400000#32 x10)
      (broadcastTo S512x768 x0 broadcasts_S1x768_S512x768)) (broadcastTo S512x768 x1 broadcasts_S1x768_S512x768))

/-- The router's logits of a block. -/
def logitsV (zn : FVec F S512x768 .f32) (x2 : Vec F S768x8 .f32) (x3 : Vec F S1x8 .f32) : FVec F S512x8 .f32 :=
  addf (matmul dot_S512x768_S768x8_S512x8_1_0_0_1_n_n none zn x2 (constant S512x8 .f32 0x00000000#32))
    (broadcastTo S512x8 x3 broadcasts_S1x8_S512x8)

/-- The experts' numbers, along every row. -/
def iotaV : IVec S512x8 32 := iota .tc S512x8 32 [1] iota_S512x8_d1_w32

/-- A row's largest entry. -/
def maxV (L : FVec F S512x8 .f32) : FVec F S512x1 .f32 :=
  shapeCast S512x1 (multiReduction .maximumf [1] S512 L 0xFF800000#32 reduces_S512x8_S512 (.inl rfl) rfl) shapeCasts_S512_S512x1

/-- The first position of a row's largest entry. -/
def argV (L : FVec F S512x8 .f32) : IVec S512x1 32 :=
  shapeCast S512x1 (multiReductionI .minsi [1] S512
    (select (cmpf .oeq L (broadcastTo S512x8 (maxV L) broadcasts_S512x1_S512x8)) iotaV (broadcast S512x8 8#32))
    2147483647#32 reduces_S512x8_S512 rfl) shapeCasts_S512_S512x1

/-- Where a row's expert number is the given one. -/
def hotV (i : IVec S512x1 32) : IVec S512x8 1 := cmpi .eq iotaV (broadcastTo S512x8 i broadcasts_S512x1_S512x8)

/-- The logits with the first choice masked. -/
def restV (L : FVec F S512x8 .f32) : FVec F S512x8 .f32 :=
  select (hotV (argV L)) (broadcast S512x8 (Named.named κ "mask" 0xFF7E486F#32)) L

/-- The exponential of the second largest logit minus the largest. -/
def gapV (L : FVec F S512x8 .f32) : FVec F S512x1 .f32 := exp (subf (maxV (restV L)) (maxV L))

/-- Both gates' denominator. -/
def denV (L : FVec F S512x8 .f32) : FVec F S512x1 .f32 := addf (broadcast S512x1 (Scalar.ofBits .f32 0x3F800000#32)) (gapV L)

/-- The gates at the two chosen experts, zero elsewhere. -/
def sparseV (L : FVec F S512x8 .f32) : FVec F S512x8 .f32 :=
  addf (select (hotV (argV L)) (broadcastTo S512x8 (divf (broadcast S512x1 (Scalar.ofBits .f32 0x3F800000#32)) (denV L)) broadcasts_S512x1_S512x8)
      (broadcast S512x8 (Scalar.ofBits .f32 0x00000000#32)))
    (select (hotV (argV (restV L))) (broadcastTo S512x8 (divf (gapV L) (denV L)) broadcasts_S512x1_S512x8)
      (broadcast S512x8 (Scalar.ofBits .f32 0x00000000#32)))

/-- How many of a block's rows chose each expert. -/
def countV (L : FVec F S512x8 .f32) : FVec F S1x8 .f32 :=
  shapeCast S1x8 (multiReduction .add [0] S8
    (addf (sitofp .f32 (extui 32 (hotV (argV L)) natLt_1_32)) (sitofp .f32 (extui 32 (hotV (argV (restV L))) natLt_1_32)))
    0x00000000#32 reduces_S512x8_S8 (.inl rfl) rfl) shapeCasts_S8_S1x8

/-- The exponentials of the logits minus the row's largest. -/
def expV (L : FVec F S512x8 .f32) : FVec F S512x8 .f32 := exp (subf L (broadcastTo S512x8 (maxV L) broadcasts_S512x1_S512x8))

/-- The column sums of a block's router probabilities. -/
def probV (L : FVec F S512x8 .f32) : FVec F S1x8 .f32 :=
  shapeCast S1x8 (multiReduction .add [0] S8
    (divf (expV L) (broadcastTo S512x8 (shapeCast S512x1 (multiReduction .add [1] S512 (expV L) 0x00000000#32 reduces_S512x8_S512 (.inl rfl) rfl)
      shapeCasts_S512_S512x1) broadcasts_S512x1_S512x8))
    0x00000000#32 reduces_S512x8_S8 (.inl rfl) rfl) shapeCasts_S8_S1x8

/-- One expert's answer on a block of normalised rows, from that expert's weights. -/
def expertV (zb : FVec F S512x768 .bf16) (w1 : Vec F S1x768x256 .bf16) (c1 : Vec F S1x1x256 .f32) (w2 : Vec F S1x256x128 .bf16)
    (c2 w3 : Vec F S1x1x128 .f32) (c3 : Vec F S1x1 .f32) : FVec F S512 .f32 :=
  addf (multiReduction .add [1] S512
      (mulf (nrmV 128 reduces_S512x128_S512 broadcasts_S512x1_S512x128 0x43000000#32
        (geluV S512x128 (addf (matmul dot_S512x256_S256x128_S512x128_1_0_0_1_n_n none
          (truncf .bf16 (nrmV 256 reduces_S512x256_S512 broadcasts_S512x1_S512x256 0x43800000#32
            (geluV S512x256 (addf (matmul dot_S512x768_S768x256_S512x256_1_0_0_1_n_n none zb
              (shapeCast S768x256 w1 shapeCasts_S1x768x256_S768x256) (constant S512x256 .f32 0x00000000#32))
              (broadcastTo S512x256 (shapeCast S1x256 c1 shapeCasts_S1x1x256_S1x256) broadcasts_S1x256_S512x256)))) bitsLt_bf16_f32)
          (shapeCast S256x128 w2 shapeCasts_S1x256x128_S256x128) (constant S512x128 .f32 0x00000000#32))
          (broadcastTo S512x128 (shapeCast S1x128 c2 shapeCasts_S1x1x128_S1x128) broadcasts_S1x128_S512x128))))
        (broadcastTo S512x128 (shapeCast S1x128 w3 shapeCasts_S1x1x128_S1x128) broadcasts_S1x128_S512x128))
      0x00000000#32 reduces_S512x128_S512 (.inl rfl) rfl)
    (broadcast S512 (extractAt ![0, 0] c3 inpos_S1x1_p0_0))

/-- A slab `e` of eight lies within them (three axes). -/
theorem inb3 {a b e : ℕ} (he : e < 8) : ∀ k, (![e, 0, 0] : Fin 3 → ℕ) k + (![1, a, b] : Fin 3 → ℕ) k ≤ (![8, a, b] : Fin 3 → ℕ) k := by
  intro k; fin_cases k
  · show e + 1 ≤ 8; omega
  · show 0 + a ≤ a; omega
  · show 0 + b ≤ b; omega
/-- A row `e` of eight lies within them. -/
theorem inb2 {a e : ℕ} (he : e < 8) : ∀ k, (![e, 0] : Fin 2 → ℕ) k + (![1, a] : Fin 2 → ℕ) k ≤ (![8, a] : Fin 2 → ℕ) k := by
  intro k; fin_cases k
  · show e + 1 ≤ 8; omega
  · show 0 + a ≤ a; omega
/-- Column `e` of eight is a slice of the block. -/
theorem slices8 {e : ℕ} (he : e < 8) : S512x8.Slices ![0, e] S512x1 :=
  ⟨rfl, fun k => by
    fin_cases k
    · show 0 + 512 ≤ 512; omega
    · show e + 1 ≤ 8; omega⟩

/-- Expert `e`'s answer on a block, from the stacked weights. -/
def expV' (zb : FVec F S512x768 .bf16) (x4 : Vec F S8x768x256 .bf16) (x5 : Vec F S8x1x256 .f32) (x6 : Vec F S8x256x128 .bf16)
    (x7 x8 : Vec F S8x1x128 .f32) (x9 : Vec F S8x1 .f32) (e : ℕ) (he : e < 8) : FVec F S512 .f32 :=
  expertV zb (View.ld x4 (Rect.unit (s := S8x768x256) ![e, 0, 0] S1x768x256.size (inb3 he)))
    (View.ld x5 (Rect.unit (s := S8x1x256) ![e, 0, 0] S1x1x256.size (inb3 he)))
    (View.ld x6 (Rect.unit (s := S8x256x128) ![e, 0, 0] S1x256x128.size (inb3 he)))
    (View.ld x7 (Rect.unit (s := S8x1x128) ![e, 0, 0] S1x1x128.size (inb3 he)))
    (View.ld x8 (Rect.unit (s := S8x1x128) ![e, 0, 0] S1x1x128.size (inb3 he)))
    (View.ld x9 (Rect.unit (s := S8x1) ![e, 0] S1x1.size (inb2 he)))

/-- The gated sum of the first `n` experts' answers, in order. -/
def sumV (zb : FVec F S512x768 .bf16) (x4 : Vec F S8x768x256 .bf16) (x5 : Vec F S8x1x256 .f32) (x6 : Vec F S8x256x128 .bf16)
    (x7 x8 : Vec F S8x1x128 .f32) (x9 : Vec F S8x1 .f32) (sw : FVec F S512x8 .f32) : (n : ℕ) → n ≤ 8 → FVec F S512 .f32
  | 0, _ => broadcast S512 (Scalar.ofBits .f32 0x00000000#32)
  | n + 1, h => addf (sumV zb x4 x5 x6 x7 x8 x9 sw n (Nat.le_of_succ_le h))
      (mulf (expV' zb x4 x5 x6 x7 x8 x9 n h) (shapeCast S512 (extractStridedSlice S512x1 ![0, n] sw (slices8 h)) shapeCasts_S512x1_S512))

/-- The logits of a block from the kernel's own inputs. -/
def lgV (x0 x1 : Vec F S1x768 .f32) (x2 : Vec F S768x8 .f32) (x3 : Vec F S1x8 .f32) (x10 : Vec F S512x768 .f32) : FVec F S512x8 .f32 :=
  logitsV (znV x0 x1 x10) x2 x3

/-- The combined output of a block. -/
def yV (x0 x1 : Vec F S1x768 .f32) (x2 : Vec F S768x8 .f32) (x3 : Vec F S1x8 .f32) (x4 : Vec F S8x768x256 .bf16) (x5 : Vec F S8x1x256 .f32)
    (x6 : Vec F S8x256x128 .bf16) (x7 x8 : Vec F S8x1x128 .f32) (x9 : Vec F S8x1 .f32) (x10 : Vec F S512x768 .f32) : FVec F S512x1 .f32 :=
  shapeCast S512x1 (sumV (truncf .bf16 (znV x0 x1 x10) bitsLt_bf16_f32) x4 x5 x6 x7 x8 x9 (sparseV (lgV x0 x1 x2 x3 x10)) 8 le_rfl)
    shapeCasts_S512_S512x1

/-! ## What the body leaves, case by case, as those computations -/

theorem hz : (![0, 0] : Fin 2 → Nat) = fun _ => 0 := funext fun a => by fin_cases a <;> rfl

section Cases
variable (c : Dev nD) (i : grid0.Coords)
  (arg1 : Memref sig .tc .vmem S1x768 .f32) (harg1 : arg1.IsWhole)
  (arg2 : Memref sig .tc .vmem S1x768 .f32) (harg2 : arg2.IsWhole)
  (arg3 : Memref sig .tc .vmem S768x8 .f32) (harg3 : arg3.IsWhole)
  (arg4 : Memref sig .tc .vmem S1x8 .f32) (harg4 : arg4.IsWhole)
  (arg5 : Memref sig .tc .vmem S8x768x256 .bf16) (harg5 : arg5.IsWhole)
  (arg6 : Memref sig .tc .vmem S8x1x256 .f32) (harg6 : arg6.IsWhole)
  (arg7 : Memref sig .tc .vmem S8x256x128 .bf16) (harg7 : arg7.IsWhole)
  (arg8 : Memref sig .tc .vmem S8x1x128 .f32) (harg8 : arg8.IsWhole)
  (arg9 : Memref sig .tc .vmem S8x1x128 .f32) (harg9 : arg9.IsWhole)
  (arg10 : Memref sig .tc .vmem S8x1 .f32) (harg10 : arg10.IsWhole)
  (arg11 : Memref sig .tc .vmem S512x768 .f32) (harg11 : arg11.IsWhole)
  (arg12 : Memref sig .tc .vmem S512x1 .f32) (harg12 : arg12.IsWhole)
  (arg13 : Memref sig .tc .vmem S512x8 .f32) (harg13 : arg13.IsWhole)
  (arg14 : Memref sig .tc .vmem S1x8 .f32) (harg14 : arg14.IsWhole)
  (arg15 : Memref sig .tc .vmem S1x8 .f32) (harg15 : arg15.IsWhole)
  (x0 : Vec F S1x768 .f32) (x1 : Vec F S1x768 .f32) (x2 : Vec F S768x8 .f32) (x3 : Vec F S1x8 .f32) (x4 : Vec F S8x768x256 .bf16) (x5 : Vec F S8x1x256 .f32) (x6 : Vec F S8x256x128 .bf16) (x7 : Vec F S8x1x128 .f32) (x8 : Vec F S8x1x128 .f32) (x9 : Vec F S8x1 .f32) (x10 : Vec F S512x768 .f32)

/-- At the first point: the combined output. -/
theorem out11_A (hc0 : cond0_0 i) (hc1 : ¬cond0_1 i) :
    out0_A_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10
      = yV x0 x1 x2 x3 x4 x5 x6 x7 x8 x9 x10 := by
  unfold out0_A_11
  rw [View.read_writes_eq_canon _ _ _ (cover0_A_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10)]
  unfold kernelRun0_A
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S1x768) hz, View.ld_unit_zero (S := S768x8) hz, View.ld_unit_zero (S := S1x8) hz, View.ld_unit_zero (S := S512x768) hz, shapeCast_self]
  simp only [k0_pay5, k0_pay6, k0_pay7, k0_pay8, k0_pay9, k0_pay10, k0_pay11, k0_pay12, k0_pay13, k0_pay14, k0_pay15, k0_pay55, shapeCast_self]
  simp only [yV, sumV, expV', expertV, geluV, sparseV, gapV, denV, hotV, restV, argV, maxV, lgV, logitsV, znV, nrmV, iotaV]

/-- At the first point: the logits. -/
theorem out12_A (hc0 : cond0_0 i) (hc1 : ¬cond0_1 i) :
    out0_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10
      = lgV x0 x1 x2 x3 x10 := by
  unfold out0_A_12
  rw [View.read_writes_eq_canon _ _ _ (cover0_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10)]
  unfold kernelRun0_A
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S1x768) hz, View.ld_unit_zero (S := S768x8) hz, View.ld_unit_zero (S := S1x8) hz, View.ld_unit_zero (S := S512x768) hz, shapeCast_self]
  simp only [k0_pay5, k0_pay6, shapeCast_self]
  simp only [lgV, logitsV, znV, nrmV]

/-- At the first point: the running count. -/
theorem out13_A (hc0 : cond0_0 i) (hc1 : ¬cond0_1 i) :
    out0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10
      = addf (broadcast S1x8 (Scalar.ofBits .f32 0x00000000#32)) (countV (lgV x0 x1 x2 x3 x10)) := by
  unfold out0_A_13
  rw [View.read_writes_eq_canon _ _ _ (cover0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10)]
  unfold kernelRun0_A
  dsimp only
  sl_unfold_words
  rw [View.canon_cons_unit_zero (S := S1x8) hz]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S1x768) hz, View.ld_unit_zero (S := S768x8) hz, View.ld_unit_zero (S := S1x8) hz, View.ld_unit_zero (S := S512x768) hz, shapeCast_self]
  rw [View.readCov_unit_zero (S := S1x8) _ hz]
  simp only [k0_pay5, k0_pay6, k0_pay7, k0_pay8, k0_pay9, k0_pay10, k0_pay11, k0_pay17, k0_pay19, shapeCast_self]
  simp only [countV, hotV, restV, argV, maxV, lgV, logitsV, znV, nrmV, iotaV]

/-- At the first point: the running probability sum. -/
theorem out14_A (hc0 : cond0_0 i) (hc1 : ¬cond0_1 i) :
    out0_A_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10
      = addf (broadcast S1x8 (Scalar.ofBits .f32 0x00000000#32)) (probV (lgV x0 x1 x2 x3 x10)) := by
  unfold out0_A_14
  rw [View.read_writes_eq_canon _ _ _ (cover0_A_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10)]
  unfold kernelRun0_A
  dsimp only
  sl_unfold_words
  rw [View.canon_cons_unit_zero (S := S1x8) hz]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S1x768) hz, View.ld_unit_zero (S := S768x8) hz, View.ld_unit_zero (S := S1x8) hz, View.ld_unit_zero (S := S512x768) hz, shapeCast_self]
  rw [View.readCov_unit_zero (S := S1x8) _ hz]
  simp only [k0_pay5, k0_pay6, k0_pay7, k0_pay18, k0_pay20, shapeCast_self]
  simp only [probV, expV, maxV, lgV, logitsV, znV, nrmV]

/-- At the middle points: the combined output. -/
theorem out11_B (hc0 : ¬cond0_0 i) (hc1 : ¬cond0_1 i) (xo13 xo14 : Vec F S1x8 .f32) :
    out0_B_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xo13 xo14
      = yV x0 x1 x2 x3 x4 x5 x6 x7 x8 x9 x10 := by
  unfold out0_B_11
  rw [View.read_writes_eq_canon _ _ _ (cover0_B_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xo13 xo14)]
  unfold kernelRun0_B
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S1x768) hz, View.ld_unit_zero (S := S768x8) hz, View.ld_unit_zero (S := S1x8) hz, View.ld_unit_zero (S := S512x768) hz, shapeCast_self]
  simp only [k0_pay5, k0_pay6, k0_pay7, k0_pay8, k0_pay9, k0_pay10, k0_pay11, k0_pay12, k0_pay13, k0_pay14, k0_pay15, k0_pay55, shapeCast_self]
  simp only [yV, sumV, expV', expertV, geluV, sparseV, gapV, denV, hotV, restV, argV, maxV, lgV, logitsV, znV, nrmV, iotaV]

/-- At the middle points: the logits. -/
theorem out12_B (hc0 : ¬cond0_0 i) (hc1 : ¬cond0_1 i) (xo13 xo14 : Vec F S1x8 .f32) :
    out0_B_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xo13 xo14
      = lgV x0 x1 x2 x3 x10 := by
  unfold out0_B_12
  rw [View.read_writes_eq_canon _ _ _ (cover0_B_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xo13 xo14)]
  unfold kernelRun0_B
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S1x768) hz, View.ld_unit_zero (S := S768x8) hz, View.ld_unit_zero (S := S1x8) hz, View.ld_unit_zero (S := S512x768) hz, shapeCast_self]
  simp only [k0_pay5, k0_pay6, shapeCast_self]
  simp only [lgV, logitsV, znV, nrmV]

/-- At the middle points: the running count. -/
theorem out13_B (hc0 : ¬cond0_0 i) (hc1 : ¬cond0_1 i) (xo13 xo14 : Vec F S1x8 .f32) :
    out0_B_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xo13 xo14
      = addf xo13 (countV (lgV x0 x1 x2 x3 x10)) := by
  unfold out0_B_13
  rw [View.read_writes_eq_canon _ _ _ (cover0_B_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xo13 xo14)]
  unfold kernelRun0_B
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S1x768) hz, View.ld_unit_zero (S := S768x8) hz, View.ld_unit_zero (S := S1x8) hz, View.ld_unit_zero (S := S512x768) hz, shapeCast_self]
  simp only [k0_pay5, k0_pay6, k0_pay7, k0_pay8, k0_pay9, k0_pay10, k0_pay11, k0_pay19, shapeCast_self]
  simp only [countV, hotV, restV, argV, maxV, lgV, logitsV, znV, nrmV, iotaV]

/-- At the middle points: the running probability sum. -/
theorem out14_B (hc0 : ¬cond0_0 i) (hc1 : ¬cond0_1 i) (xo13 xo14 : Vec F S1x8 .f32) :
    out0_B_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xo13 xo14
      = addf xo14 (probV (lgV x0 x1 x2 x3 x10)) := by
  unfold out0_B_14
  rw [View.read_writes_eq_canon _ _ _ (cover0_B_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xo13 xo14)]
  unfold kernelRun0_B
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S1x768) hz, View.ld_unit_zero (S := S768x8) hz, View.ld_unit_zero (S := S1x8) hz, View.ld_unit_zero (S := S512x768) hz, shapeCast_self]
  simp only [k0_pay5, k0_pay6, k0_pay7, k0_pay20, shapeCast_self]
  simp only [probV, expV, maxV, lgV, logitsV, znV, nrmV]

/-- At the last point: the combined output. -/
theorem out11_C (hc0 : ¬cond0_0 i) (hc1 : cond0_1 i) (xo13 xo14 : Vec F S1x8 .f32) :
    out0_C_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xo13 xo14
      = yV x0 x1 x2 x3 x4 x5 x6 x7 x8 x9 x10 := by
  unfold out0_C_11
  rw [View.read_writes_eq_canon _ _ _ (cover0_C_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xo13 xo14)]
  unfold kernelRun0_C
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S1x768) hz, View.ld_unit_zero (S := S768x8) hz, View.ld_unit_zero (S := S1x8) hz, View.ld_unit_zero (S := S512x768) hz, shapeCast_self]
  simp only [k0_pay5, k0_pay6, k0_pay7, k0_pay8, k0_pay9, k0_pay10, k0_pay11, k0_pay12, k0_pay13, k0_pay14, k0_pay15, k0_pay55, shapeCast_self]
  simp only [yV, sumV, expV', expertV, geluV, sparseV, gapV, denV, hotV, restV, argV, maxV, lgV, logitsV, znV, nrmV, iotaV]

/-- At the last point: the logits. -/
theorem out12_C (hc0 : ¬cond0_0 i) (hc1 : cond0_1 i) (xo13 xo14 : Vec F S1x8 .f32) :
    out0_C_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xo13 xo14
      = lgV x0 x1 x2 x3 x10 := by
  unfold out0_C_12
  rw [View.read_writes_eq_canon _ _ _ (cover0_C_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xo13 xo14)]
  unfold kernelRun0_C
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S1x768) hz, View.ld_unit_zero (S := S768x8) hz, View.ld_unit_zero (S := S1x8) hz, View.ld_unit_zero (S := S512x768) hz, shapeCast_self]
  simp only [k0_pay5, k0_pay6, shapeCast_self]
  simp only [lgV, logitsV, znV, nrmV]

/-- At the last point: the running count. -/
theorem out13_C (hc0 : ¬cond0_0 i) (hc1 : cond0_1 i) (xo13 xo14 : Vec F S1x8 .f32) :
    out0_C_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xo13 xo14
      = mulf (addf xo13 (countV (lgV x0 x1 x2 x3 x10))) (broadcast S1x8 (Scalar.ofBits .f32 0x38800000#32)) := by
  unfold out0_C_13
  rw [View.read_writes_eq_canon _ _ _ (cover0_C_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xo13 xo14)]
  unfold kernelRun0_C
  dsimp only
  sl_unfold_words
  rw [View.canon_cons_unit_zero (S := S1x8) hz]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S1x768) hz, View.ld_unit_zero (S := S768x8) hz, View.ld_unit_zero (S := S1x8) hz, View.ld_unit_zero (S := S512x768) hz, shapeCast_self]
  rw [View.readCov_unit_zero (S := S1x8) _ hz]
  simp only [k0_pay5, k0_pay6, k0_pay7, k0_pay8, k0_pay9, k0_pay10, k0_pay11, k0_pay19, k0_pay21, shapeCast_self]
  simp only [countV, hotV, restV, argV, maxV, lgV, logitsV, znV, nrmV, iotaV]

/-- At the last point: the running probability sum. -/
theorem out14_C (hc0 : ¬cond0_0 i) (hc1 : cond0_1 i) (xo13 xo14 : Vec F S1x8 .f32) :
    out0_C_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xo13 xo14
      = mulf (addf xo14 (probV (lgV x0 x1 x2 x3 x10))) (broadcast S1x8 (Scalar.ofBits .f32 0x38800000#32)) := by
  unfold out0_C_14
  rw [View.read_writes_eq_canon _ _ _ (cover0_C_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xo13 xo14)]
  unfold kernelRun0_C
  dsimp only
  sl_unfold_words
  rw [View.canon_cons_unit_zero (S := S1x8) hz]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S1x768) hz, View.ld_unit_zero (S := S768x8) hz, View.ld_unit_zero (S := S1x8) hz, View.ld_unit_zero (S := S512x768) hz, shapeCast_self]
  rw [View.readCov_unit_zero (S := S1x8) _ hz]
  simp only [k0_pay5, k0_pay6, k0_pay7, k0_pay20, k0_pay22, shapeCast_self]
  simp only [probV, expV, maxV, lgV, logitsV, znV, nrmV]

end Cases

end Cert.KernelIdeal.Blocks
-- ==== Proof.Rows.lean ====
/-
  The block's computations at the extended reals, read row by row: each is the plain function of that row.
-/
module

public import proofs.«01_k».proof.Proof.Blocks
public import Idealize.ShloMosaic.Lib.ValueLayout
public import Idealize.ShloMosaic.Lib.ValueLayoutCasts
public import Idealize.ShloMosaic.Lib.MatmulPlain
public import Idealize.ShloMosaic.Lib.Pipeline.ValueKit.Tiles
public import Idealize.ShloMosaic.PureOps.IdealRules

@[expose] public section

noncomputable section

namespace Cert.KernelIdeal.Rows

open Cert.KernelIdeal Cert.KernelIdeal.Gen Idealize.ShloMosaic Idealize.ShloMosaic.TcCoe Idealize.SL.Sem Idealize.ShloMosaic.ValueIdx
open Cert.Alg Cert.Router Cert.Spec Cert.KernelIdeal.Blocks

/-! ## Columns and rows of a block -/

/-- A column spread over a block's columns. -/
theorem bcol {α : Type} {N : ℕ} (v : S512x1.Idx → α) (hb : S512x1.Broadcasts ⟨2, ![512, N]⟩) (r : Fin 512) (d : Fin N) :
    broadcastTo ⟨2, ![512, N]⟩ v hb (ix2 r d) = v (ix2 r 0) :=
  broadcastTo_apply v hb (ix2 r d) (ix2 r 0) fun ax => by
    match ax with
    | ⟨0, _⟩ => rfl
    | ⟨1, _⟩ => rfl

/-- The index that a reduction of a block's columns reads. -/
theorem lift_row {N : ℕ} (hr : (⟨2, ![512, N]⟩ : Shape).Reduces [1] S512) (r : Fin 512) (k : Fin N) :
    hr.lift (ix1 r) k = ix2 r k := by
  funext c; apply Fin.ext; fin_cases c <;> rfl

/-- A sum along a block's row. -/
theorem sum_row {N : ℕ} (hr : (⟨2, ![512, N]⟩ : Shape).Reduces [1] S512) (x : FVec Ideal ⟨2, ![512, N]⟩ .f32) (r : Fin 512) :
    multiReduction .add [1] S512 x 0x00000000#32 hr (.inl rfl) rfl (ix1 r) = ∑ k : Fin N, x (ix2 r k) :=
  (Ideal.multiReduction_add_single x _ hr _ _ (ix1 r)).trans (Finset.sum_congr rfl fun k _ => congrArg x (lift_row hr r k))

/-- The same as a column. -/
theorem sum_col {N : ℕ} (hr : (⟨2, ![512, N]⟩ : Shape).Reduces [1] S512) (x : FVec Ideal ⟨2, ![512, N]⟩ .f32) (r : Fin 512) (u : Fin 1) :
    shapeCast S512x1 (multiReduction .add [1] S512 x 0x00000000#32 hr (.inl rfl) rfl) shapeCasts_S512_S512x1 (ix2 r u)
      = ∑ k : Fin N, x (ix2 r k) :=
  (shapeCast_a_a1_apply _ _ r u).trans (sum_row hr x r)

/-! ## The normalisation and the activation -/

/-- A block's normalisation is that of each of its rows. -/
theorem nrmV_apply {N : ℕ} (hr : (⟨2, ![512, N]⟩ : Shape).Reduces [1] S512) (hb : S512x1.Broadcasts ⟨2, ![512, N]⟩) (n : BitVec 32)
    (x : FVec Ideal ⟨2, ![512, N]⟩ .f32) (r : Fin 512) (d : Fin N) :
    nrmV N hr hb n x (ix2 r d) = nrm (Ideal.ofBits .f32 n) (fun k => x (ix2 r k)) d := by
  have hm : ∀ k : Fin N, broadcastTo ⟨2, ![512, N]⟩ (divf (shapeCast S512x1 (multiReduction .add [1] S512 x 0x00000000#32 hr (.inl rfl) rfl) shapeCasts_S512_S512x1) (broadcast S512x1 (Scalar.ofBits .f32 n))) hb (ix2 r k) = mean (Ideal.ofBits .f32 n) (fun k => x (ix2 r k)) := fun k => by
    rw [bcol]
    exact congrArg (Ideal.div · (Ideal.ofBits .f32 n)) (sum_col hr x r 0)
  unfold nrmV nrm
  show (x (ix2 r d) - _) * _ = _
  rw [hm, bcol]
  refine congrArg ((x (ix2 r d) - mean (Ideal.ofBits .f32 n) (fun k => x (ix2 r k))) * ·) ?_
  refine congrArg (fun v => Ideal.rsqrt (Ideal.div v (Ideal.ofBits .f32 n) + eps)) ((sum_col hr _ r 0).trans ?_)
  refine Finset.sum_congr rfl fun k _ => ?_
  show (x (ix2 r k) - _) * (x (ix2 r k) - _) = _
  rw [hm]

/-- The activation, entry by entry. -/
theorem geluV_apply (S : Shape) (h : FVec Ideal S .f32) (i : S.Idx) : geluV S h i = gelu (h i) := rfl

/-- The normalised rows that the router and the experts read. -/
theorem znV_apply (x0 x1 : Vec Ideal S1x768 .f32) (x10 : Vec Ideal S512x768 .f32) (r : Fin 512) (d : Fin 768) :
    znV x0 x1 x10 (ix2 r d) = znr (fun k => x0 (ix2 0 k)) (fun k => x1 (ix2 0 k)) (fun k => x10 (ix2 r k)) d := by
  unfold znV znr
  rw [nrmV_apply, ← ofBits_768]
  exact congrArg (fun f => nrm (Ideal.ofBits .f32 0x44400000#32) f d) (funext fun k =>
    congrArg₂ (fun a b : EReal => a + b) (congrArg₂ (fun a b : EReal => a * b) (nrmV_apply _ _ _ x10 r k) (broadcastTo_1b_ab_apply x0 _ r k))
      (broadcastTo_1b_ab_apply x1 _ r k))

/-- The logits, row by row. -/
theorem logitsV_apply (zn : FVec Ideal S512x768 .f32) (x2 : Vec Ideal S768x8 .f32) (x3 : Vec Ideal S1x8 .f32) (r : Fin 512) (e : Fin 8) :
    logitsV zn x2 x3 (ix2 r e) = lgr (fun k => zn (ix2 r k)) (fun k e => x2 (ix2 k e)) (fun e => x3 (ix2 0 e)) e := by
  show FloatOps.matmul (DotDims.plain 512 768 8) none zn x2 _ (ix2 r e) + broadcastTo S512x8 x3 _ (ix2 r e) = _
  rw [Ideal.matmul_plain_apply]
  erw [broadcastTo_1b_ab_apply]
  show Ideal.ofBits .f32 0x00000000#32 + _ + _ = _
  rw [ofBits_zero, zero_add]
  rfl

/-! ## One expert -/

/-- A dense layer with its activation, row by row. -/
theorem dense_apply {K N : ℕ} (z : FVec Ideal ⟨2, ![512, K]⟩ .bf16) (w : FVec Ideal ⟨3, ![1, K, N]⟩ .bf16) (c : FVec Ideal ⟨3, ![1, 1, N]⟩ .f32)
    (h : (⟨3, ![1, K, N]⟩ : Shape).ShapeCasts ⟨2, ![K, N]⟩) (h1 : (⟨3, ![1, 1, N]⟩ : Shape).ShapeCasts ⟨2, ![1, N]⟩)
    (hb : (⟨2, ![1, N]⟩ : Shape).Broadcasts ⟨2, ![512, N]⟩) (r : Fin 512) (j : Fin N) :
    geluV ⟨2, ![512, N]⟩ (addf (matmul (DotDims.plain 512 K N) none z (shapeCast ⟨2, ![K, N]⟩ w h) (constant ⟨2, ![512, N]⟩ .f32 0x00000000#32))
      (broadcastTo ⟨2, ![512, N]⟩ (shapeCast ⟨2, ![1, N]⟩ c h1) hb)) (ix2 r j)
      = layer (fun k => z (ix2 r k)) (fun k j => w (ix3 0 k j)) (fun j => c (ix3 0 0 j)) j := by
  refine congrArg gelu ?_
  refine congrArg₂ (fun a b : EReal => a + b) ?_ ((broadcastTo_1b_ab_apply _ hb r j).trans (shapeCast_1ab_ab_apply c h1 0 j))
  refine (Ideal.matmul_plain_apply none z _ _ r j).trans ?_
  refine (congrArg₂ (fun a b : EReal => a + b) ofBits_zero (Finset.sum_congr rfl fun k _ =>
    congrArg (fun b : EReal => z (ix2 r k) * b) (shapeCast_1ab_ab_apply w h k j))).trans (zero_add _)

/-- An expert's answer, row by row. -/
theorem expertV_apply (zb : FVec Ideal S512x768 .bf16) (w1 : Vec Ideal S1x768x256 .bf16) (c1 : Vec Ideal S1x1x256 .f32) (w2 : Vec Ideal S1x256x128 .bf16)
    (c2 w3 : Vec Ideal S1x1x128 .f32) (c3 : Vec Ideal S1x1 .f32) (r : Fin 512) :
    expertV zb w1 c1 w2 c2 w3 c3 (ix1 r)
      = expert (fun k => zb (ix2 r k)) (fun k j => w1 (ix3 0 k j)) (fun j => c1 (ix3 0 0 j)) (fun k j => w2 (ix3 0 k j))
          (fun j => c2 (ix3 0 0 j)) (fun j => w3 (ix3 0 0 j)) (c3 (ix2 0 0)) := by
  unfold expertV expert
  refine congrArg₂ (fun a b : EReal => a + b) ((sum_row _ _ r).trans (Finset.sum_congr rfl fun k _ => ?_)) ?_
  · refine congrArg₂ (fun a b : EReal => a * b) ?_ ((broadcastTo_1b_ab_apply _ _ r k).trans (shapeCast_1ab_ab_apply w3 _ 0 k))
    rw [← ofBits_128]
    refine (nrmV_apply _ _ _ _ r k).trans (congrArg (fun f => nrm (Ideal.ofBits .f32 0x43000000#32) f k) (funext fun j => ?_))
    refine (dense_apply _ w2 c2 _ _ _ r j).trans ?_
    refine congrArg (fun f => layer f (fun k j => w2 (ix3 0 k j)) (fun j => c2 (ix3 0 0 j)) j) (funext fun i => ?_)
    rw [← ofBits_256]
    refine (nrmV_apply _ _ _ _ r i).trans (congrArg (fun f => nrm (Ideal.ofBits .f32 0x43800000#32) f i) (funext fun j => ?_))
    exact dense_apply zb w1 c1 _ _ _ r j
  · exact congrArg c3 (funext fun a => by fin_cases a <;> rfl)

/-- Expert `e`'s answer, row by row, from the stacked weights. -/
theorem expV'_apply (zb : FVec Ideal S512x768 .bf16) (x4 : Vec Ideal S8x768x256 .bf16) (x5 : Vec Ideal S8x1x256 .f32) (x6 : Vec Ideal S8x256x128 .bf16)
    (x7 x8 : Vec Ideal S8x1x128 .f32) (x9 : Vec Ideal S8x1 .f32) (e : Fin 8) (r : Fin 512) :
    expV' zb x4 x5 x6 x7 x8 x9 e.val e.isLt (ix1 r)
      = expert (fun k => zb (ix2 r k)) (fun k j => x4 (ix3 e k j)) (fun j => x5 (ix3 e 0 j)) (fun k j => x6 (ix3 e k j))
          (fun j => x7 (ix3 e 0 j)) (fun j => x8 (ix3 e 0 j)) (x9 (ix2 e 0)) := by
  have h3 : ∀ {a b : ℕ} {el : EltTy} (X : Vec Ideal ⟨3, ![8, a, b]⟩ el) (i : Fin a) (j : Fin b),
      View.ld X (Rect.unit (s := ⟨3, ![8, a, b]⟩) ![e.val, 0, 0] ![1, a, b] (inb3 e.isLt)) (ix3 0 i j) = X (ix3 e i j) := fun X i j =>
    View.ld_unit_apply_of X _ _ _ _ (ix3 e i j) fun a => by
      fin_cases a
      · rfl
      · exact (Nat.zero_add _).symm
      · exact (Nat.zero_add _).symm
  have h2 : View.ld x9 (Rect.unit (s := S8x1) ![e.val, 0] S1x1.size (inb2 e.isLt)) (ix2 0 0) = x9 (ix2 e 0) :=
    View.ld_unit_apply_of x9 _ _ _ _ (ix2 e 0) fun a => by
      fin_cases a <;> rfl
  refine (expertV_apply zb _ _ _ _ _ _ r).trans ?_
  unfold expert
  refine congrArg₂ (fun a b : EReal => a + b) (Finset.sum_congr rfl fun k _ => congrArg₂ (fun a b : EReal => a * b) ?_ (h3 x8 0 k)) h2
  refine congrArg (fun f => nrm ((128 : ℝ) : EReal) f k) (funext fun j => ?_)
  refine congr (congrArg₂ (layer _) (funext fun i => funext fun j => h3 x6 i j) (funext fun j => h3 x7 0 j)) rfl |>.trans ?_
  refine congrArg (fun f => layer (nrm ((256 : ℝ) : EReal) f) (fun k j => x6 (ix3 e k j)) (fun j => x7 (ix3 e 0 j)) j) (funext fun i => ?_)
  exact congr (congrArg₂ (layer _) (funext fun i => funext fun j => h3 x4 i j) (funext fun j => h3 x5 0 j)) rfl

/-- The gated sum of the first `n` experts, row by row. -/
theorem sumV_apply (zb : FVec Ideal S512x768 .bf16) (x4 : Vec Ideal S8x768x256 .bf16) (x5 : Vec Ideal S8x1x256 .f32) (x6 : Vec Ideal S8x256x128 .bf16)
    (x7 x8 : Vec Ideal S8x1x128 .f32) (x9 : Vec Ideal S8x1 .f32) (sw : FVec Ideal S512x8 .f32) (r : Fin 512) (n : ℕ) (h : n ≤ 8) :
    sumV zb x4 x5 x6 x7 x8 x9 sw n h (ix1 r)
      = ∑ e : Fin n, expV' zb x4 x5 x6 x7 x8 x9 e.val (lt_of_lt_of_le e.isLt h) (ix1 r) * sw (ix2 r ⟨e.val, lt_of_lt_of_le e.isLt h⟩) := by
  induction n with
  | zero => exact ofBits_zero.trans (Fin.sum_univ_zero _).symm
  | succ n ih =>
    rw [Fin.sum_univ_castSucc]
    refine congrArg₂ (fun a b : EReal => a + b) (ih _) (congrArg (fun b : EReal => expV' zb x4 x5 x6 x7 x8 x9 n h (ix1 r) * b) ?_)
    refine (shapeCast_apply _ shapeCasts_S512x1_S512 (ix1 r) (ix2 r 0) ?_).trans
      (extractStridedSlice_apply _ sw (slices8 h) (ix2 r 0) (ix2 r ⟨n, h⟩) fun a => ?_)
    · rw [Shape.rowMajor_val_two, Shape.rowMajor_val_one]
      show r.val * 1 + 0 = r.val
      omega
    · fin_cases a
      · exact (Nat.zero_add _).symm
      · rfl

/-! ## The two choices -/

/-- A row of a block's logits. -/
def row (L : FVec Ideal S512x8 .f32) (r : Fin 512) : Fin 8 → EReal := fun e => L (ix2 r e)

/-- A row's largest entry is its best position's. -/
theorem maxV_apply {L : FVec Ideal S512x8 .f32} {r : Fin 512} {i : Fin 8} (h : Top (row L r) i) (u : Fin 1) :
    maxV L (ix2 r u) = row L r i := by
  unfold maxV
  refine (shapeCast_a_a1_apply _ _ r u).trans ((Ideal.multiReduction_maximumf_single L _ reduces_S512x8_S512 _ _ (ix1 r)).trans ?_)
  refine Eq.trans ?_ (fold_max h)
  exact congrArg₂ (fun (b : EReal) f => (Finset.univ : Finset (Fin 8)).fold max b f) ofBits_neg_inf
    (funext fun k => congrArg L (lift_row reduces_S512x8_S512 r k))

theorem iotaV_apply (r : Fin 512) (e : Fin 8) : iotaV (ix2 r e) = word e := by
  show BitVec.ofNat 32 (0 * 8 + e.val) = BitVec.ofNat 32 e.val
  rw [Nat.zero_mul, Nat.zero_add]

theorem ofBool_decide_one {p : Prop} [Decidable p] : (BitVec.ofBool (decide p) = 1) = p := by
  by_cases h : p <;> simp [h]

/-- The first position of a row's largest entry is the best position. -/
theorem argV_apply {L : FVec Ideal S512x8 .f32} {r : Fin 512} {i : Fin 8} (h : Top (row L r) i) (u : Fin 1) :
    argV L (ix2 r u) = word i := by
  unfold argV
  refine (shapeCast_a_a1_apply _ _ r u).trans ((multiReductionI_eq_fold _ _ _ _ _ _).trans ?_)
  refine (reduces_S512x8_S512.fold_filter_drop_single _ _ _ (ix1 r)).trans (Eq.trans ?_ (fold_minsi h))
  refine congrArg (fun f => (Finset.univ : Finset (Fin 8)).fold IntOp.minsi 2147483647#32 f) (funext fun k : Fin 8 => ?_)
  show select _ _ _ (reduces_S512x8_S512.lift (ix1 r) k) = _
  rw [lift_row reduces_S512x8_S512 r k]
  show (if Ideal.cmp .oeq (L (ix2 r k)) (broadcastTo S512x8 (maxV L) _ (ix2 r k)) = 1 then iotaV (ix2 r k) else 8#32) = _
  rw [iotaV_apply, bcol (maxV L) broadcasts_S512x1_S512x8 r k, maxV_apply h]
  show (if BitVec.ofBool (decide (row L r k = row L r i)) = 1 then _ else _) = _
  simp only [ofBool_decide_one]

/-- Where the given column holds a position's word, the mask is one at that position alone. -/
theorem hotV_apply {a : IVec S512x1 32} {r : Fin 512} {i : Fin 8} (h : a (ix2 r 0) = word i) (e : Fin 8) :
    hotV a (ix2 r e) = BitVec.ofBool (decide (e = i)) := by
  unfold hotV
  show BitVec.ofBool (iotaV (ix2 r e) == broadcastTo S512x8 a _ (ix2 r e)) = _
  rw [iotaV_apply, bcol a broadcasts_S512x1_S512x8 r e, h]
  congr 1
  rw [Bool.eq_iff_iff, beq_iff_eq, decide_eq_true_iff, word_inj]

/-- The row with its first choice masked is the row with that position taken out. -/
theorem restV_row (L : FVec Ideal S512x8 .f32) (r : Fin 512) : row (restV L) r = rest (row L r) := by
  funext e
  show (if hotV (argV L) (ix2 r e) = 1 then Named.named (F := Ideal) κ "mask" 0xFF7E486F#32 else L (ix2 r e))
    = if e = fst (row L r) then ⊥ else row L r e
  rw [hotV_apply (argV_apply (top_fst (row L r)) 0), IdealRules.named_const.ideal_named_scalar _ _ _ ⊥ rfl]
  simp only [ofBool_decide_one]
  rfl

/-- The gates, the counts and the probabilities of a row of real logits. -/
theorem gapV_apply {L : FVec Ideal S512x8 .f32} {r : Fin 512} (hL : ∀ e, IsR (row L r e)) (u : Fin 1) :
    gapV L (ix2 r u) = gap (row L r) := by
  have h1 := top_fst (row L r)
  have h2 : Top (row (restV L) r) (snd (row L r)) := by rw [restV_row]; exact top_snd _ hL
  show Ideal.exp (maxV (restV L) (ix2 r u) - maxV L (ix2 r u)) = _
  rw [maxV_apply h1, maxV_apply h2, restV_row, rest, if_neg (snd_ne_fst _)]
  rfl

theorem hot1 (L : FVec Ideal S512x8 .f32) (r : Fin 512) (e : Fin 8) :
    hotV (argV L) (ix2 r e) = BitVec.ofBool (decide (e = fst (row L r))) := hotV_apply (argV_apply (top_fst (row L r)) 0) e

theorem hot2 {L : FVec Ideal S512x8 .f32} {r : Fin 512} (hL : ∀ e, IsR (row L r e)) (e : Fin 8) :
    hotV (argV (restV L)) (ix2 r e) = BitVec.ofBool (decide (e = snd (row L r))) :=
  hotV_apply (argV_apply (by rw [restV_row]; exact top_snd _ hL) 0) e

/-- The gates of a row of real logits. -/
theorem sparseV_apply {L : FVec Ideal S512x8 .f32} {r : Fin 512} (hL : ∀ e, IsR (row L r e)) (e : Fin 8) :
    sparseV L (ix2 r e) = gate (row L r) e := by
  have hd : denV L (ix2 r 0) = 1 + gap (row L r) := by
    show Ideal.ofBits .f32 0x3F800000#32 + gapV L (ix2 r 0) = _
    rw [gapV_apply hL, ofBits_one]
  unfold sparseV gate
  show (if hotV (argV L) (ix2 r e) = 1 then broadcastTo S512x8 _ _ (ix2 r e) else Ideal.ofBits .f32 0x00000000#32)
    + (if hotV (argV (restV L)) (ix2 r e) = 1 then broadcastTo S512x8 _ _ (ix2 r e) else Ideal.ofBits .f32 0x00000000#32) = _
  rw [hot1, hot2 hL, ofBits_zero, bcol _ broadcasts_S512x1_S512x8 r e, bcol _ broadcasts_S512x1_S512x8 r e]
  simp only [ofBool_decide_one]
  refine congrArg₂ (fun a b : EReal => (if e = fst (row L r) then a else 0) + (if e = snd (row L r) then b else 0)) ?_ ?_
  · show Ideal.div (Ideal.ofBits .f32 0x3F800000#32) (denV L (ix2 r 0)) = _
    rw [hd, ofBits_one]
  · show Ideal.div (gapV L (ix2 r 0)) (denV L (ix2 r 0)) = _
    rw [hd, gapV_apply hL]

/-! ## The column sums -/

/-- The index that a reduction of a block's rows reads. -/
theorem lift_col (e : Fin 8) (r : Fin 512) : reduces_S512x8_S8.lift (ix1 e) r = ix2 r e := by
  funext c; apply Fin.ext; fin_cases c <;> rfl

/-- A sum along a block's column. -/
theorem sum_column (x : FVec Ideal S512x8 .f32) (e : Fin 8) (u : Fin 1) :
    shapeCast S1x8 (multiReduction .add [0] S8 x 0x00000000#32 reduces_S512x8_S8 (.inl rfl) rfl) shapeCasts_S8_S1x8 (ix2 u e)
      = ∑ r : Fin 512, x (ix2 r e) :=
  (shapeCast_a_1a_apply _ _ u e).trans ((Ideal.multiReduction_add_single x _ reduces_S512x8_S8 _ _ (ix1 e)).trans
    (Finset.sum_congr rfl fun k _ => congrArg x (lift_col e k)))

theorem ofBool_float (p : Prop) [Decidable p] :
    ((((BitVec.setWidth 32 (BitVec.ofBool (decide p))).toInt : ℤ) : ℝ) : EReal) = if p then 1 else 0 := by
  by_cases h : p <;> simp [h]

/-- How many of a block's rows chose an expert. -/
theorem countV_apply {L : FVec Ideal S512x8 .f32} (hL : ∀ r e, IsR (row L r e)) (e : Fin 8) (u : Fin 1) :
    countV L (ix2 u e) = ∑ r : Fin 512, hit (row L r) e := by
  unfold countV
  refine (sum_column _ e u).trans (Finset.sum_congr rfl fun r _ => ?_)
  show ((((BitVec.setWidth 32 (hotV (argV L) (ix2 r e))).toInt : ℤ) : ℝ) : EReal)
    + ((((BitVec.setWidth 32 (hotV (argV (restV L)) (ix2 r e))).toInt : ℤ) : ℝ) : EReal) = _
  rw [hot1, hot2 (hL r), ofBool_float, ofBool_float]
  rfl

/-- The column sums of a block's router probabilities. -/
theorem probV_apply (L : FVec Ideal S512x8 .f32) (e : Fin 8) (u : Fin 1) : probV L (ix2 u e) = ∑ r : Fin 512, prob (row L r) e := by
  have he : ∀ r k, expV L (ix2 r k) = Ideal.exp (row L r k - row L r (fst (row L r))) := fun r k => by
    show Ideal.exp (L (ix2 r k) - broadcastTo S512x8 (maxV L) _ (ix2 r k)) = _
    rw [bcol (maxV L) broadcasts_S512x1_S512x8 r k, maxV_apply (top_fst (row L r))]
    rfl
  unfold probV
  refine (sum_column _ e u).trans (Finset.sum_congr rfl fun r _ => ?_)
  refine congrArg₂ Ideal.div (he r e) ?_
  refine (bcol _ broadcasts_S512x1_S512x8 r e).trans ((sum_col reduces_S512x8_S512 _ r 0).trans (Finset.sum_congr rfl fun k _ => he r k))

/-! ## A block's four outputs, row by row -/

/-- The logits of a block. -/
theorem lgV_apply (x0 x1 : Vec Ideal S1x768 .f32) (x2 : Vec Ideal S768x8 .f32) (x3 : Vec Ideal S1x8 .f32) (x10 : Vec Ideal S512x768 .f32)
    (r : Fin 512) (e : Fin 8) :
    lgV x0 x1 x2 x3 x10 (ix2 r e)
      = lgr (znr (fun k => x0 (ix2 0 k)) (fun k => x1 (ix2 0 k)) (fun k => x10 (ix2 r k))) (fun k e => x2 (ix2 k e)) (fun e => x3 (ix2 0 e)) e :=
  (logitsV_apply _ x2 x3 r e).trans (congrArg (fun z => lgr z (fun k e => x2 (ix2 k e)) (fun e => x3 (ix2 0 e)) e)
    (funext fun k => znV_apply x0 x1 x10 r k))

/-- The combined output of a block whose logits are real. -/
theorem yV_apply (x0 x1 : Vec Ideal S1x768 .f32) (x2 : Vec Ideal S768x8 .f32) (x3 : Vec Ideal S1x8 .f32) (x4 : Vec Ideal S8x768x256 .bf16)
    (x5 : Vec Ideal S8x1x256 .f32) (x6 : Vec Ideal S8x256x128 .bf16) (x7 x8 : Vec Ideal S8x1x128 .f32) (x9 : Vec Ideal S8x1 .f32)
    (x10 : Vec Ideal S512x768 .f32) (r : Fin 512) (hL : ∀ e, IsR (row (lgV x0 x1 x2 x3 x10) r e)) (u : Fin 1) :
    yV x0 x1 x2 x3 x4 x5 x6 x7 x8 x9 x10 (ix2 r u)
      = ∑ e : Fin 8, expert (znr (fun k => x0 (ix2 0 k)) (fun k => x1 (ix2 0 k)) (fun k => x10 (ix2 r k)))
          (fun k j => x4 (ix3 e k j)) (fun j => x5 (ix3 e 0 j)) (fun k j => x6 (ix3 e k j))
          (fun j => x7 (ix3 e 0 j)) (fun j => x8 (ix3 e 0 j)) (x9 (ix2 e 0)) * gate (row (lgV x0 x1 x2 x3 x10) r) e := by
  unfold yV
  refine (shapeCast_a_a1_apply _ _ r u).trans ((sumV_apply _ x4 x5 x6 x7 x8 x9 _ r 8 le_rfl).trans (Finset.sum_congr rfl fun e _ => ?_))
  refine congrArg₂ (fun a b : EReal => a * b) ((expV'_apply _ x4 x5 x6 x7 x8 x9 e r).trans ?_) (sparseV_apply hL e)
  exact congrArg (fun z => expert z (fun k j => x4 (ix3 e k j)) (fun j => x5 (ix3 e 0 j)) (fun k j => x6 (ix3 e k j))
          (fun j => x7 (ix3 e 0 j)) (fun j => x8 (ix3 e 0 j)) (x9 (ix2 e 0))) (funext fun k => znV_apply x0 x1 x10 r k)

end Cert.KernelIdeal.Rows
-- ==== Proof.Host.lean ====
/-
  What the kernel's windows hold when its region is entered: the arguments, and the weights and biases that the host folds the
  scales and shifts into, each read at an index.
-/
module

public import proofs.«01_k».proof.Proof.Rows
public import Idealize.ShloMosaic.Lib.StableHlo.Run

@[expose] public section

noncomputable section

namespace Cert.KernelIdeal.HostVals

open Cert.KernelIdeal Cert.KernelIdeal.Gen Idealize.ShloMosaic Idealize.ShloMosaic.TcCoe Idealize.SL.Sem Idealize.ShloMosaic.ValueIdx
open Cert.Alg Cert.Router Cert.Spec Cert.KernelIdeal.Blocks Idealize.ShloMosaic.StableHlo

/-- A host contraction over one coordinate, read at an index. -/
theorem dot_read {sl sr so : Shape} (d : DotDims sl sr so) (K : ℕ) (hr : d.contr.rank = 1)
    (hK : d.contr.size ⟨0, by rw [hr]; exact Nat.one_pos⟩ = K) (l : FVec Ideal sl .f32) (r : FVec Ideal sr .f32) (j : so.Idx)
    (li : Fin K → sl.Idx) (ri : Fin K → sr.Idx)
    (hl : ∀ k, d.lhsIdx j ((contrEquiv1 d K hr hK).symm k) = li k) (hri : ∀ k, d.rhsIdx j ((contrEquiv1 d K hr hK).symm k) = ri k) :
    (Host.dotGeneral d none l r : FVec Ideal so .f32) j = ∑ k, l (li k) * r (ri k) := by
  simp only [Host.dotGeneral]
  rw [Ideal.dotGeneral_apply, ← Equiv.sum_comp (contrEquiv1 d K hr hK).symm]
  exact Finset.sum_congr rfl fun k _ => by rw [hl, hri]

variable (m : (ℓ : Loc nD τ sig) → Buf (Elt Ideal) ℓ) (c : Dev nD)

/-- The kernel's arguments as plain tables. -/
def args : Args where
  x t k := m ((c : Thread nD τ).loc main_arg0) (ix2 t k)
  g k := m ((c : Thread nD τ).loc main_arg1) (ix1 k)
  b k := m ((c : Thread nD τ).loc main_arg2) (ix1 k)
  rg k := m ((c : Thread nD τ).loc main_arg3) (ix1 k)
  rb k := m ((c : Thread nD τ).loc main_arg4) (ix1 k)
  W k e := m ((c : Thread nD τ).loc main_arg5) (ix2 k e)
  br e := m ((c : Thread nD τ).loc main_arg6) (ix1 e)
  g1 e k := m ((c : Thread nD τ).loc main_arg7) (ix2 e k)
  b1 e k := m ((c : Thread nD τ).loc main_arg8) (ix2 e k)
  W1 e k j := m ((c : Thread nD τ).loc main_arg9) (ix3 e k j)
  c1 e j := m ((c : Thread nD τ).loc main_arg10) (ix2 e j)
  g2 e k := m ((c : Thread nD τ).loc main_arg11) (ix2 e k)
  b2 e k := m ((c : Thread nD τ).loc main_arg12) (ix2 e k)
  W2 e k j := m ((c : Thread nD τ).loc main_arg13) (ix3 e k j)
  c2 e j := m ((c : Thread nD τ).loc main_arg14) (ix2 e j)
  g3 e k := m ((c : Thread nD τ).loc main_arg15) (ix2 e k)
  b3 e k := m ((c : Thread nD τ).loc main_arg16) (ix2 e k)
  W3 e k := m ((c : Thread nD τ).loc main_arg17) (ix3 e k 0)
  c3 e := m ((c : Thread nD τ).loc main_arg18) (ix2 e 0)

theorem V_v24 (k : Fin 768) : V m c main_v24 (ix2 0 k) = (args m c).g k := by
  unfold V
  after_results_simp
  refine (broadcastInDim_apply _ bcast_S768_S1x768_1 _ (ix2 0 k) (ix1 k) fun a => ?_)
  fin_cases a
  exact (if_neg (by decide)).symm

theorem V_v25 (k : Fin 768) : V m c main_v25 (ix2 0 k) = (args m c).b k := by
  unfold V
  after_results_simp
  refine (broadcastInDim_apply _ bcast_S768_S1x768_1 _ (ix2 0 k) (ix1 k) fun a => ?_)
  fin_cases a
  exact (if_neg (by decide)).symm

theorem V_v2 (k : Fin 768) (e : Fin 8) : V m c main_v2 (ix2 k e) = (args m c).fW k e := by
  unfold V
  after_results_simp
  refine congrArg (fun a : EReal => a * m ((c : Thread nD τ).loc main_arg5) (ix2 k e)) ?_
  refine (broadcastInDim_apply _ bcast_S768x1_S768x8_0_1 _ (ix2 k e) (ix2 k 0) fun a => ?_).trans
    (broadcastInDim_apply _ bcast_S768_S768x1_0 _ (ix2 k 0) (ix1 k) fun a => ?_)
  · fin_cases a
    · exact (if_neg (by decide)).symm
    · exact (if_pos rfl).symm
  · fin_cases a
    exact (if_neg (by decide)).symm

theorem V_v26 (e : Fin 8) : V m c main_v26 (ix2 0 e) = (args m c).fbr e := by
  unfold V
  after_results_simp
  refine (broadcastInDim_apply _ bcast_S8_S1x8_1 _ (ix2 0 e) (ix1 e) fun a => ?_).trans ?_
  · fin_cases a
    exact (if_neg (by decide)).symm
  refine congrArg (fun a : EReal => a + m ((c : Thread nD τ).loc main_arg6) (ix1 e)) ?_
  refine dot_read dot_S768_S768x8_S8_0_0_n_1_n_n 768 rfl rfl _ _ (ix1 e) (fun k => ix1 k) (fun k => ix2 k e) (fun k => ?_) (fun k => ?_)
  · have hk := contrEquiv1_symm_val dot_S768_S768x8_S8_0_0_n_1_n_n 768 rfl rfl k
    funext a; apply Fin.ext
    match a with
    | ⟨0, _⟩ => exact hk
  · have hk := contrEquiv1_symm_val dot_S768_S768x8_S8_0_0_n_1_n_n 768 rfl rfl k
    funext a; apply Fin.ext
    match a with
    | ⟨0, _⟩ => exact hk
    | ⟨1, _⟩ => rfl

/-- The index `a[:, None]` of a rank-2 array spread over a third axis. -/
theorem spread3 {A B C : ℕ} (hA : A ≠ 1) (hB : B ≠ 1) (x : (⟨2, ![A, B]⟩ : Shape).Idx → EReal)
    (h1 : (⟨2, ![A, B]⟩ : Shape).BroadcastsInDim ⟨3, ![A, B, 1]⟩ ![0, 1]) (h2 : (⟨3, ![A, B, 1]⟩ : Shape).BroadcastsInDim ⟨3, ![A, B, C]⟩ ![0, 1, 2])
    (e : Fin A) (k : Fin B) (j : Fin C) :
    broadcastInDim ⟨3, ![A, B, C]⟩ ![0, 1, 2] h2 (broadcastInDim ⟨3, ![A, B, 1]⟩ ![0, 1] h1 x) (ix3 e k j) = x (ix2 e k) := by
  refine (broadcastInDim_apply _ h2 _ (ix3 e k j) (ix3 e k 0) fun a => ?_).trans (broadcastInDim_apply _ h1 _ (ix3 e k 0) (ix2 e k) fun a => ?_)
  · fin_cases a
    · exact (if_neg hA).symm
    · exact (if_neg hB).symm
    · exact (if_pos rfl).symm
  · fin_cases a
    · exact (if_neg hA).symm
    · exact (if_neg hB).symm

/-- The index of a rank-2 array with a unit axis put between its two. -/
theorem middle3 {A B : ℕ} (hA : A ≠ 1) (hB : B ≠ 1) (x : (⟨2, ![A, B]⟩ : Shape).Idx → EReal)
    (h : (⟨2, ![A, B]⟩ : Shape).BroadcastsInDim ⟨3, ![A, 1, B]⟩ ![0, 2]) (e : Fin A) (j : Fin B) :
    broadcastInDim ⟨3, ![A, 1, B]⟩ ![0, 2] h x (ix3 e 0 j) = x (ix2 e j) := by
  refine broadcastInDim_apply _ h _ (ix3 e 0 j) (ix2 e j) fun a => ?_
  fin_cases a
  · exact (if_neg hA).symm
  · exact (if_neg hB).symm

theorem V_v8 (e : Fin 8) (k : Fin 768) (j : Fin 256) : V m c main_v8 (ix3 e k j) = (args m c).fW1 e k j := by
  unfold V
  after_results_simp
  exact congrArg (fun a : EReal => a * m ((c : Thread nD τ).loc main_arg9) (ix3 e k j))
    (spread3 (by decide) (by decide) _ bcast_S8x768_S8x768x1_0_1 bcast_S8x768x1_S8x768x256_0_1_2 e k j)

theorem V_v14 (e : Fin 8) (k : Fin 256) (j : Fin 128) : V m c main_v14 (ix3 e k j) = (args m c).fW2 e k j := by
  unfold V
  after_results_simp
  exact congrArg (fun a : EReal => a * m ((c : Thread nD τ).loc main_arg13) (ix3 e k j))
    (spread3 (by decide) (by decide) _ bcast_S8x256_S8x256x1_0_1 bcast_S8x256x1_S8x256x128_0_1_2 e k j)

theorem V_v27 (e : Fin 8) (j : Fin 256) : V m c main_v27 (ix3 e 0 j) = (args m c).fc1 e j := by
  unfold V
  after_results_simp
  refine (middle3 (by decide) (by decide) _ bcast_S8x256_S8x1x256_0_2 e j).trans ?_
  refine congrArg (fun a : EReal => a + m ((c : Thread nD τ).loc main_arg10) (ix2 e j)) ?_
  refine dot_read dot_S8x768_S8x768x256_S8x256_1_1_n_2_0_0 768 rfl rfl _ _ (ix2 e j) (fun k => ix2 e k) (fun k => ix3 e k j) (fun k => ?_) (fun k => ?_)
  · have hk := contrEquiv1_symm_val dot_S8x768_S8x768x256_S8x256_1_1_n_2_0_0 768 rfl rfl k
    funext a; apply Fin.ext
    match a with
    | ⟨0, _⟩ => rfl
    | ⟨1, _⟩ => exact hk
  · have hk := contrEquiv1_symm_val dot_S8x768_S8x768x256_S8x256_1_1_n_2_0_0 768 rfl rfl k
    funext a; apply Fin.ext
    match a with
    | ⟨0, _⟩ => rfl
    | ⟨1, _⟩ => exact hk
    | ⟨2, _⟩ => rfl

theorem V_v28 (e : Fin 8) (j : Fin 128) : V m c main_v28 (ix3 e 0 j) = (args m c).fc2 e j := by
  unfold V
  after_results_simp
  refine (middle3 (by decide) (by decide) _ bcast_S8x128_S8x1x128_0_2 e j).trans ?_
  refine congrArg (fun a : EReal => a + m ((c : Thread nD τ).loc main_arg14) (ix2 e j)) ?_
  refine dot_read dot_S8x256_S8x256x128_S8x128_1_1_n_2_0_0 256 rfl rfl _ _ (ix2 e j) (fun k => ix2 e k) (fun k => ix3 e k j) (fun k => ?_) (fun k => ?_)
  · have hk := contrEquiv1_symm_val dot_S8x256_S8x256x128_S8x128_1_1_n_2_0_0 256 rfl rfl k
    funext a; apply Fin.ext
    match a with
    | ⟨0, _⟩ => rfl
    | ⟨1, _⟩ => exact hk
  · have hk := contrEquiv1_symm_val dot_S8x256_S8x256x128_S8x128_1_1_n_2_0_0 256 rfl rfl k
    funext a; apply Fin.ext
    match a with
    | ⟨0, _⟩ => rfl
    | ⟨1, _⟩ => exact hk
    | ⟨2, _⟩ => rfl

/-- The last weights without their unit axis. -/
theorem drop3 (x : (⟨3, ![8, 128, 1]⟩ : Shape).Idx → EReal) (h : (⟨3, ![8, 128, 1]⟩ : Shape).ShapeCasts ⟨2, ![8, 128]⟩) (e : Fin 8) (j : Fin 128) :
    shapeCast ⟨2, ![8, 128]⟩ x h (ix2 e j) = x (ix3 e j 0) := by
  refine shapeCast_apply _ h (ix2 e j) (ix3 e j 0) ?_
  rw [Shape.rowMajor_val_three, Shape.rowMajor_val_two]
  show (e.val * 128 + j.val) * 1 + 0 = e.val * 128 + j.val
  omega

theorem V_v29 (e : Fin 8) (j : Fin 128) : V m c main_v29 (ix3 e 0 j) = (args m c).fW3 e j := by
  unfold V
  after_results_simp
  refine (middle3 (by decide) (by decide) _ bcast_S8x128_S8x1x128_0_2 e j).trans ?_
  exact congrArg (fun a : EReal => (args m c).g3 e j * a) (drop3 _ shapeCasts_S8x128x1_S8x128 e j)

theorem V_v23 (e : Fin 8) : V m c main_v23 (ix2 e 0) = (args m c).fc3 e := by
  unfold V
  after_results_simp
  refine congrArg (fun a : EReal => a + m ((c : Thread nD τ).loc main_arg18) (ix2 e 0)) ?_
  refine (broadcastInDim_apply _ bcast_S8_S8x1_0 _ (ix2 e 0) (ix1 e) fun a => ?_).trans ?_
  · fin_cases a
    exact (if_neg (by decide)).symm
  have hr : S8x128.Reduces [1] S8 := by decide
  refine (Ideal.hostReduceAdd_single reducesTo_S8x128_S8_d1 hr _ _ (ix1 e)).trans ?_
  refine (congrArg₂ (fun a b : EReal => a + b) ofBits_zero (Finset.sum_congr rfl fun k _ => ?_)).trans (zero_add _)
  have hk : hr.lift (ix1 e) k = ix2 e k := by funext c; apply Fin.ext; fin_cases c <;> rfl
  rw [hk]
  exact congrArg (fun a : EReal => (args m c).b3 e k * a) (drop3 _ shapeCasts_S8x128x1_S8x128 e k)

end Cert.KernelIdeal.HostVals
-- ==== Proof.Arrays.lean ====
/-
  What the kernel's four result arrays hold after its run: every token's output and logits block by block, and the two tables
  that the blocks add to one after another, scaled at the last.
-/
module

public import proofs.«01_k».proof.Proof.Host
public import Idealize.ShloMosaic.Lib.Pipeline.ValueKit.Geometry

@[expose] public section

noncomputable section

namespace Cert.KernelIdeal.Arrays

open Cert.KernelIdeal Cert.KernelIdeal.Gen Idealize.ShloMosaic Idealize.ShloMosaic.TcCoe Idealize.SL.Sem Idealize.ShloMosaic.ValueIdx
open Cert.Alg Cert.Router Cert.Spec Cert.KernelIdeal.Blocks Cert.KernelIdeal.Rows Cert.KernelIdeal.HostVals

variable (m : (ℓ : Loc nD τ sig) → Buf (Elt Ideal) ℓ) (c : Dev nD)

/-- The token of row `r` in block `t`. -/
def tok (t : Fin cfg0.N) (r : Fin 512) : Fin 16384 :=
  ⟨t.val * 512 + r.val, by have h : t.val < 32 := t.isLt; have := r.isLt; omega⟩

/-! ## The windows' blocks at an index -/

theorem idx10 : ∀ t : Fin cfg0.N, win0_10.index t = ![t.val, 0] := (by decide +kernel : ∀ t : Fin grid0.N, win0_10.index t = ![t.val, 0])
theorem blk10 (t : Fin cfg0.N) (r : Fin 512) (k : Fin 768) : iblk m c 10 t (ix2 r k) = (args m c).x (tok t r) k := by
  refine Eq.trans ?_ (congrFun (V_main_arg0 m c) (ix2 (tok t r) k))
  blk_simp [iblk]
  refine congrArg (V m c main_arg0) ?_
  blk_ext [idx10 t]
  rfl

theorem idx0 : ∀ t : Fin cfg0.N, win0_0.index t = ![0, 0] := (by decide +kernel : ∀ t : Fin grid0.N, win0_0.index t = ![0, 0])
theorem blk0 (t : Fin cfg0.N) (k : Fin 768) : iblk m c 0 t (ix2 0 k) = (args m c).g k := by
  refine Eq.trans ?_ (V_v24 m c k)
  blk_simp [iblk]
  refine congrArg (V m c main_v24) ?_
  blk_ext [idx0 t]

theorem idx1 : ∀ t : Fin cfg0.N, win0_1.index t = ![0, 0] := (by decide +kernel : ∀ t : Fin grid0.N, win0_1.index t = ![0, 0])
theorem blk1 (t : Fin cfg0.N) (k : Fin 768) : iblk m c 1 t (ix2 0 k) = (args m c).b k := by
  refine Eq.trans ?_ (V_v25 m c k)
  blk_simp [iblk]
  refine congrArg (V m c main_v25) ?_
  blk_ext [idx1 t]

theorem idx2 : ∀ t : Fin cfg0.N, win0_2.index t = ![0, 0] := (by decide +kernel : ∀ t : Fin grid0.N, win0_2.index t = ![0, 0])
theorem blk2 (t : Fin cfg0.N) (k : Fin 768) (e : Fin 8) : iblk m c 2 t (ix2 k e) = (args m c).fW k e := by
  refine Eq.trans ?_ (V_v2 m c k e)
  blk_simp [iblk]
  refine congrArg (V m c main_v2) ?_
  blk_ext [idx2 t]

theorem idx3 : ∀ t : Fin cfg0.N, win0_3.index t = ![0, 0] := (by decide +kernel : ∀ t : Fin grid0.N, win0_3.index t = ![0, 0])
theorem blk3 (t : Fin cfg0.N) (e : Fin 8) : iblk m c 3 t (ix2 0 e) = (args m c).fbr e := by
  refine Eq.trans ?_ (V_v26 m c e)
  blk_simp [iblk]
  refine congrArg (V m c main_v26) ?_
  blk_ext [idx3 t]

theorem idx4 : ∀ t : Fin cfg0.N, win0_4.index t = ![0, 0, 0] := (by decide +kernel : ∀ t : Fin grid0.N, win0_4.index t = ![0, 0, 0])
theorem blk4 (t : Fin cfg0.N) (e : Fin 8) (k : Fin 768) (j : Fin 256) : iblk m c 4 t (ix3 e k j) = (args m c).fW1 e k j := by
  refine Eq.trans ?_ (V_v8 m c e k j)
  blk_simp [iblk]
  refine congrArg (V m c main_v8) ?_
  blk_ext [idx4 t]

theorem idx5 : ∀ t : Fin cfg0.N, win0_5.index t = ![0, 0, 0] := (by decide +kernel : ∀ t : Fin grid0.N, win0_5.index t = ![0, 0, 0])
theorem blk5 (t : Fin cfg0.N) (e : Fin 8) (j : Fin 256) : iblk m c 5 t (ix3 e 0 j) = (args m c).fc1 e j := by
  refine Eq.trans ?_ (V_v27 m c e j)
  blk_simp [iblk]
  refine congrArg (V m c main_v27) ?_
  blk_ext [idx5 t]

theorem idx6 : ∀ t : Fin cfg0.N, win0_6.index t = ![0, 0, 0] := (by decide +kernel : ∀ t : Fin grid0.N, win0_6.index t = ![0, 0, 0])
theorem blk6 (t : Fin cfg0.N) (e : Fin 8) (k : Fin 256) (j : Fin 128) : iblk m c 6 t (ix3 e k j) = (args m c).fW2 e k j := by
  refine Eq.trans ?_ (V_v14 m c e k j)
  blk_simp [iblk]
  refine congrArg (V m c main_v14) ?_
  blk_ext [idx6 t]

theorem idx7 : ∀ t : Fin cfg0.N, win0_7.index t = ![0, 0, 0] := (by decide +kernel : ∀ t : Fin grid0.N, win0_7.index t = ![0, 0, 0])
theorem blk7 (t : Fin cfg0.N) (e : Fin 8) (j : Fin 128) : iblk m c 7 t (ix3 e 0 j) = (args m c).fc2 e j := by
  refine Eq.trans ?_ (V_v28 m c e j)
  blk_simp [iblk]
  refine congrArg (V m c main_v28) ?_
  blk_ext [idx7 t]

theorem idx8 : ∀ t : Fin cfg0.N, win0_8.index t = ![0, 0, 0] := (by decide +kernel : ∀ t : Fin grid0.N, win0_8.index t = ![0, 0, 0])
theorem blk8 (t : Fin cfg0.N) (e : Fin 8) (j : Fin 128) : iblk m c 8 t (ix3 e 0 j) = (args m c).fW3 e j := by
  refine Eq.trans ?_ (V_v29 m c e j)
  blk_simp [iblk]
  refine congrArg (V m c main_v29) ?_
  blk_ext [idx8 t]

theorem idx9 : ∀ t : Fin cfg0.N, win0_9.index t = ![0, 0] := (by decide +kernel : ∀ t : Fin grid0.N, win0_9.index t = ![0, 0])
theorem blk9 (t : Fin cfg0.N) (e : Fin 8) : iblk m c 9 t (ix2 e 0) = (args m c).fc3 e := by
  refine Eq.trans ?_ (V_v23 m c e)
  blk_simp [iblk]
  refine congrArg (V m c main_v23) ?_
  blk_ext [idx9 t]

/-- The logits of block `t`. -/
def lgB (t : Fin cfg0.N) : FVec Ideal S512x8 .f32 := lgV (iblk m c 0 t) (iblk m c 1 t) (iblk m c 2 t) (iblk m c 3 t) (iblk m c 10 t)

/-- A block's row of logits is its token's. -/
theorem lgB_row (t : Fin cfg0.N) (r : Fin 512) : row (lgB m c t) r = (args m c).L (tok t r) := by
  funext e
  refine (lgV_apply _ _ _ _ _ r e).trans ?_
  unfold Args.L Args.z
  simp only [blk0, blk1, blk2, blk3, blk10]

/-- A block's output row is its token's. -/
theorem yB_apply (h : (args m c).Real) (t : Fin cfg0.N) (r : Fin 512) (u : Fin 1) :
    yV (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 r u) = (args m c).y (tok t r) := by
  refine (yV_apply _ _ _ _ _ _ _ _ _ _ _ r (fun e => ?_) u).trans ?_
  · refine Eq.subst (motive := IsR) (congrFun (lgB_row m c t r) e).symm (Args.L_isR h _ e)
  · refine Finset.sum_congr rfl fun e _ => congrArg₂ (fun a b : EReal => a * b) ?_ (congrArg (fun l => gate l e) (lgB_row m c t r))
    simp only [blk0, blk1, blk4, blk5, blk6, blk7, blk8, blk9, blk10]
    rfl

/-! ## What the body leaves after each point -/

/-- After point `t` the first window holds block `t`'s outputs. -/
theorem outs11 (t : Fin cfg0.N) : (outsAt0 m c t.val t.isLt).1 = yV (iblk m c 0 t) (iblk m c 1 t) (iblk m c 2 t) (iblk m c 3 t) (iblk m c 4 t) (iblk m c 5 t) (iblk m c 6 t) (iblk m c 7 t) (iblk m c 8 t) (iblk m c 9 t) (iblk m c 10 t) := by
  by_cases h0 : t.val % 32 = 0
  · have h1 : ¬ t.val % 32 = 31 := by omega
    rw [outsAt0_A m c t h0 h1]; dsimp only; exact out11_A (F := Ideal) ..
  · by_cases h1 : t.val % 32 = 31
    · rw [outsAt0_C m c t h0 h1]; dsimp only; exact out11_C (F := Ideal) ..
    · rw [outsAt0_B m c t h0 h1]; dsimp only; exact out11_B (F := Ideal) ..

/-- After point `t` the second window holds block `t`'s logits. -/
theorem outs12 (t : Fin cfg0.N) : (outsAt0 m c t.val t.isLt).2.1 = lgB m c t := by
  by_cases h0 : t.val % 32 = 0
  · have h1 : ¬ t.val % 32 = 31 := by omega
    rw [outsAt0_A m c t h0 h1]; dsimp only; exact out12_A (F := Ideal) ..
  · by_cases h1 : t.val % 32 = 31
    · rw [outsAt0_C m c t h0 h1]; dsimp only; exact out12_C (F := Ideal) ..
    · rw [outsAt0_B m c t h0 h1]; dsimp only; exact out12_B (F := Ideal) ..

/-- The first point's table: zero plus the block's. -/
theorem outs13_A (t : Fin cfg0.N) (h0 : t.val % 32 = 0) (h1 : ¬ t.val % 32 = 31) : (outsAt0 m c t.val t.isLt).2.2.1
    = addf (broadcast S1x8 (Scalar.ofBits .f32 0x00000000#32)) (countV (lgB m c t)) := by
  rw [outsAt0_A m c t h0 h1]; dsimp only; exact out13_A (F := Ideal) ..
/-- A middle point's table: what the point before left plus the block's. -/
theorem outs13_B (t : Fin cfg0.N) (h0 : ¬ t.val % 32 = 0) (h1 : ¬ t.val % 32 = 31) : (outsAt0 m c t.val t.isLt).2.2.1
    = addf ((outsAt0 m c (t.val - 1) (Nat.lt_of_le_of_lt (Nat.sub_le _ _) t.isLt)).2.2.1 : FVec Ideal S1x8 .f32) (countV (lgB m c t)) := by
  rw [outsAt0_B m c t h0 h1]; dsimp only; exact out13_B (F := Ideal) ..
/-- The last point's table: the same, scaled. -/
theorem outs13_C (t : Fin cfg0.N) (h0 : ¬ t.val % 32 = 0) (h1 : t.val % 32 = 31) : (outsAt0 m c t.val t.isLt).2.2.1
    = mulf (addf ((outsAt0 m c (t.val - 1) (Nat.lt_of_le_of_lt (Nat.sub_le _ _) t.isLt)).2.2.1 : FVec Ideal S1x8 .f32) (countV (lgB m c t))) (broadcast S1x8 (Scalar.ofBits .f32 0x38800000#32)) := by
  rw [outsAt0_C m c t h0 h1]; dsimp only; exact out13_C (F := Ideal) ..

/-- The first point's table: zero plus the block's. -/
theorem outs14_A (t : Fin cfg0.N) (h0 : t.val % 32 = 0) (h1 : ¬ t.val % 32 = 31) : (outsAt0 m c t.val t.isLt).2.2.2
    = addf (broadcast S1x8 (Scalar.ofBits .f32 0x00000000#32)) (probV (lgB m c t)) := by
  rw [outsAt0_A m c t h0 h1]; dsimp only; exact out14_A (F := Ideal) ..
/-- A middle point's table: what the point before left plus the block's. -/
theorem outs14_B (t : Fin cfg0.N) (h0 : ¬ t.val % 32 = 0) (h1 : ¬ t.val % 32 = 31) : (outsAt0 m c t.val t.isLt).2.2.2
    = addf ((outsAt0 m c (t.val - 1) (Nat.lt_of_le_of_lt (Nat.sub_le _ _) t.isLt)).2.2.2 : FVec Ideal S1x8 .f32) (probV (lgB m c t)) := by
  rw [outsAt0_B m c t h0 h1]; dsimp only; exact out14_B (F := Ideal) ..
/-- The last point's table: the same, scaled. -/
theorem outs14_C (t : Fin cfg0.N) (h0 : ¬ t.val % 32 = 0) (h1 : t.val % 32 = 31) : (outsAt0 m c t.val t.isLt).2.2.2
    = mulf (addf ((outsAt0 m c (t.val - 1) (Nat.lt_of_le_of_lt (Nat.sub_le _ _) t.isLt)).2.2.2 : FVec Ideal S1x8 .f32) (probV (lgB m c t))) (broadcast S1x8 (Scalar.ofBits .f32 0x38800000#32)) := by
  rw [outsAt0_C m c t h0 h1]; dsimp only; exact out14_C (F := Ideal) ..

/-! ## The tables after the last point -/

/-- A table that starts at zero plus the first block's, adds each block's, and is scaled at the last, is the scaled sum of all. -/
theorem run_table (T : (n : ℕ) → n < 32 → FVec Ideal S1x8 .f32) (P : Fin 32 → FVec Ideal S1x8 .f32)
    (hA : T 0 (by decide) = addf (broadcast S1x8 (Scalar.ofBits .f32 0x00000000#32)) (P 0))
    (hB : ∀ n (h : n + 1 < 31), T (n + 1) (by omega) = addf (T n (by omega)) (P ⟨n + 1, by omega⟩))
    (hC : T 31 (by decide) = mulf (addf (T 30 (by decide)) (P 31)) (broadcast S1x8 (Scalar.ofBits .f32 0x38800000#32))) (i : S1x8.Idx) :
    T 31 (by decide) i = (∑ t, P t i) * ((1 / 16384 : ℝ) : EReal) := by
  have hs : ∀ n (h : n < 31), T n (by omega) i = ∑ t : Fin (n + 1), P ⟨t.val, by omega⟩ i := by
    intro n
    induction n with
    | zero =>
      intro _
      rw [hA, Fin.sum_univ_castSucc, Fin.sum_univ_zero]
      exact congrArg (fun a : EReal => a + P 0 i) ofBits_zero
    | succ n ih =>
      intro h
      rw [hB n h, Fin.sum_univ_castSucc]
      exact congrArg (fun a : EReal => a + P ⟨n + 1, by omega⟩ i) (ih (by omega))
  rw [hC, Fin.sum_univ_castSucc]
  refine congrArg₂ (fun a b : EReal => a * b) (congrArg (fun a : EReal => a + P 31 i) ?_) ofBits_inv16384
  exact hs 30 (by omega)

/-- A sum over the blocks' rows is the sum over the tokens. -/
theorem sum_tok (f : Fin 16384 → EReal) : ∑ t : Fin 32, ∑ r : Fin 512, f (tok t r) = ∑ t, f t := by
  rw [← Fintype.sum_prod_type' (fun (t : Fin 32) (r : Fin 512) => f (tok t r))]
  refine Fintype.sum_equiv (finProdFinEquiv (m := 32) (n := 512)) _ f fun p => congrArg f (Fin.ext ?_)
  show p.1.val * 512 + p.2.val = p.2.val + 512 * p.1.val
  omega

/-- What the third window holds after point `n`. -/
def T13 (n : ℕ) (h : n < 32) : FVec Ideal S1x8 .f32 := (outsAt0 m c n h).2.2.1
theorem T13_eq (t : Fin cfg0.N) : (outsAt0 m c t.val t.isLt).2.2.1 = T13 m c t.val t.isLt := rfl
theorem T13_A (t : Fin cfg0.N) (h0 : t.val % 32 = 0) (h1 : ¬ t.val % 32 = 31) :
    T13 m c t.val t.isLt = addf (broadcast S1x8 (Scalar.ofBits .f32 0x00000000#32)) (countV (lgB m c t)) := outs13_A m c t h0 h1
theorem T13_B (n : ℕ) (h : n + 1 < 31) : T13 m c (n + 1) (by omega) = addf (T13 m c n (by omega)) (countV (lgB m c ⟨n + 1, by show n + 1 < 32; omega⟩)) :=
  outs13_B m c ⟨n + 1, by show n + 1 < 32; omega⟩ (by show ¬ (n + 1) % 32 = 0; omega) (by show ¬ (n + 1) % 32 = 31; omega)
theorem T13_C (n : ℕ) (h : n + 1 < 32) (hn : (n + 1) % 32 = 31) : T13 m c (n + 1) h = mulf (addf (T13 m c n (by omega)) (countV (lgB m c ⟨n + 1, h⟩)))
    (broadcast S1x8 (Scalar.ofBits .f32 0x38800000#32)) :=
  outs13_C m c ⟨n + 1, h⟩ (by show ¬ (n + 1) % 32 = 0; omega) hn

/-- After the last point it holds the fractions. -/
theorem table13 (h : (args m c).Real) (e : Fin 8) (u : Fin 1) : T13 m c 31 (by decide) (ix2 u e) = (args m c).frac e := by
  refine (run_table (T13 m c) (fun t => countV (lgB m c t)) (T13_A m c ⟨0, by decide⟩ rfl (by decide))
    (fun n h => T13_B m c n h) (T13_C m c 30 (by decide) rfl) (ix2 u e)).trans ?_
  unfold Args.frac
  refine congrArg (fun a : EReal => a * _) (Eq.trans (Finset.sum_congr rfl fun t _ => ?_) (sum_tok fun t => hit ((args m c).L t) e))
  refine (countV_apply (fun r e => ?_) e u).trans (Finset.sum_congr rfl fun r _ => congrArg (fun l => hit l e) (lgB_row m c t r))
  exact Eq.subst (motive := IsR) (congrFun (lgB_row m c t r) e).symm (Args.L_isR h _ e)

/-- What the fourth window holds after point `n`. -/
def T14 (n : ℕ) (h : n < 32) : FVec Ideal S1x8 .f32 := (outsAt0 m c n h).2.2.2
theorem T14_eq (t : Fin cfg0.N) : (outsAt0 m c t.val t.isLt).2.2.2 = T14 m c t.val t.isLt := rfl
theorem T14_A (t : Fin cfg0.N) (h0 : t.val % 32 = 0) (h1 : ¬ t.val % 32 = 31) :
    T14 m c t.val t.isLt = addf (broadcast S1x8 (Scalar.ofBits .f32 0x00000000#32)) (probV (lgB m c t)) := outs14_A m c t h0 h1
theorem T14_B (n : ℕ) (h : n + 1 < 31) : T14 m c (n + 1) (by omega) = addf (T14 m c n (by omega)) (probV (lgB m c ⟨n + 1, by show n + 1 < 32; omega⟩)) :=
  outs14_B m c ⟨n + 1, by show n + 1 < 32; omega⟩ (by show ¬ (n + 1) % 32 = 0; omega) (by show ¬ (n + 1) % 32 = 31; omega)
theorem T14_C (n : ℕ) (h : n + 1 < 32) (hn : (n + 1) % 32 = 31) : T14 m c (n + 1) h = mulf (addf (T14 m c n (by omega)) (probV (lgB m c ⟨n + 1, h⟩)))
    (broadcast S1x8 (Scalar.ofBits .f32 0x38800000#32)) :=
  outs14_C m c ⟨n + 1, h⟩ (by show ¬ (n + 1) % 32 = 0; omega) hn

/-- After the last point it holds the mean probabilities. -/
theorem table14 (e : Fin 8) (u : Fin 1) : T14 m c 31 (by decide) (ix2 u e) = (args m c).pmean e := by
  refine (run_table (T14 m c) (fun t => probV (lgB m c t)) (T14_A m c ⟨0, by decide⟩ rfl (by decide))
    (fun n h => T14_B m c n h) (T14_C m c 30 (by decide) rfl) (ix2 u e)).trans ?_
  unfold Args.pmean
  refine congrArg (fun a : EReal => a * _) (Eq.trans (Finset.sum_congr rfl fun t _ => ?_) (sum_tok fun t => prob ((args m c).L t) e))
  exact (probV_apply _ e u).trans (Finset.sum_congr rfl fun r _ => congrArg (fun l => prob l e) (lgB_row m c t r))

/-! ## The arrays after the run -/

theorem lt31 : 31 < cfg0.N := by decide
theorem idx11 : ∀ t : Fin cfg0.N, win0_11.index t = ![t.val, 0] := (by decide +kernel : ∀ t : Fin grid0.N, win0_11.index t = ![t.val, 0])
theorem idx12 : ∀ t : Fin cfg0.N, win0_12.index t = ![t.val, 0] := (by decide +kernel : ∀ t : Fin grid0.N, win0_12.index t = ![t.val, 0])

/-- The first result: every token's output. -/
theorem final11 (h : (args m c).Real) : (dats m 0 c).arrAt 11 cfg0.N = fun i => (args m c).y (i 0) := by
  refine (dats m 0 c).arrAt_eq_of_covers 11 _ (by decide +kernel) fun t hf y => ?_
  blk_simp
  rw [after0_11, outs11]
  have hy : ∀ y : S512x1.Idx, yV (iblk m c 0 t) (iblk m c 1 t) (iblk m c 2 t) (iblk m c 3 t) (iblk m c 4 t) (iblk m c 5 t) (iblk m c 6 t) (iblk m c 7 t) (iblk m c 8 t) (iblk m c 9 t) (iblk m c 10 t) y
      = (args m c).y (tok t (y 0)) := fun y => by
    rw [eq_ix2 y]
    exact yB_apply m c h t _ _
  refine (hy y).trans (congrArg (args m c).y (Fin.ext ?_))
  blk_simp [idx11 t]
  rfl

/-- The fourth result: every token's logits. -/
theorem final12 : (dats m 0 c).arrAt 12 cfg0.N = fun i => (args m c).L (i 0) (i 1) := by
  refine (dats m 0 c).arrAt_eq_of_covers 12 _ (by decide +kernel) fun t hf y => ?_
  blk_simp
  rw [after0_12, outs12]
  have hy : ∀ y : S512x8.Idx, lgB m c t y = (args m c).L (tok t (y 0)) (y 1) := fun y => by
    rw [eq_ix2 y]
    exact congrFun (lgB_row m c t (y 0)) (y 1)
  refine (hy y).trans (congrArg₂ (args m c).L (Fin.ext ?_) (Fin.ext ?_))
  · blk_simp [idx12 t]
    rfl
  · blk_simp [idx12 t]

/-- The second result: the fractions. -/
theorem final13 (h : (args m c).Real) : (dats m 0 c).arrAt 13 cfg0.N = fun i => (args m c).frac (i 1) := by
  have hy : ∀ y : S1x8.Idx, (dats m 0 c).after 13 ⟨31, lt31⟩ y = (args m c).frac (y 1) := fun y => by
    rw [after0_13, T13_eq, eq_ix2 y]
    exact table13 m c h _ _
  exact (dats m 0 c).arrAt_eq_of_after_last 13 ⟨31, lt31⟩ (by decide +kernel) _ fun j => hy j

/-- The third result: the mean probabilities. -/
theorem final14 : (dats m 0 c).arrAt 14 cfg0.N = fun i => (args m c).pmean (i 1) := by
  have hy : ∀ y : S1x8.Idx, (dats m 0 c).after 14 ⟨31, lt31⟩ y = (args m c).pmean (y 1) := fun y => by
    rw [after0_14, T14_eq, eq_ix2 y]
    exact table14 m c _ _
  exact (dats m 0 c).arrAt_eq_of_after_last 14 ⟨31, lt31⟩ (by decide +kernel) _ fun j => hy j

end Cert.KernelIdeal.Arrays
-- ==== Proof.RefRows.lean ====
/-
  The reference's stages read at an index: the normalised rows, the logits and the experts' answers are the plain functions of the
  arguments.
-/
module

public import proofs.«01_k».proof.Proof.Arrays
public import proofs.«01_k».proof.Proof.Gen.ReferenceIdeal.Read

@[expose] public section

noncomputable section

namespace Cert.ReferenceIdeal.Rows

open Cert.ReferenceIdeal Cert.ReferenceIdeal.Gen Cert.ReferenceIdeal.Read Idealize.ShloMosaic Idealize.ShloMosaic.TcCoe Idealize.ShloMosaic.ValueIdx
open Cert.Alg Cert.Router Cert.Spec

/-- Two indices of a table with equal coordinates are equal. -/
theorem ext2 {a b : ℕ} {i j : (⟨2, ![a, b]⟩ : Shape).Idx} (h0 : i 0 = j 0) (h1 : i 1 = j 1) : i = j := by
  funext k; fin_cases k
  · exact h0
  · exact h1

/-- Two indices of a three-dimensional table with equal coordinates are equal. -/
theorem ext3 {a b c : ℕ} {i j : (⟨3, ![a, b, c]⟩ : Shape).Idx} (h0 : i 0 = j 0) (h1 : i 1 = j 1) (h2 : i 2 = j 2) : i = j := by
  funext k; fin_cases k
  · exact h0
  · exact h1
  · exact h2

/-! ## The rows normalised -/

/-- The mean of a token's row. -/
theorem v3_at (x : FVec Ideal S16384x768 .f32) (t : Fin 16384) :
    val_main_v3 (F := Ideal) x (ix2 t 0) = mean ((768 : ℝ) : EReal) fun k => x (ix2 t k) := by
  rw [val_main_v3_apply, val_main_v1_apply, val_main_v0_apply, val_main_v2_apply]
  refine (congrArg₂ (fun a b : EReal => Ideal.div a b) ?_ ofBits_768 : _)
  refine (congrArg₂ (fun a b : EReal => a + b) ofBits_zero (Finset.sum_congr rfl fun k _ => congrArg x ?_)).trans (zero_add _)
  exact ext2 rfl rfl

/-- The variance of a token's row. -/
theorem v10_at (x : FVec Ideal S16384x768 .f32) (t : Fin 16384) :
    val_main_v10 (F := Ideal) x (ix2 t 0) = var ((768 : ℝ) : EReal) fun k => x (ix2 t k) := by
  rw [val_main_v10_apply, val_main_v8_apply, val_main_v7_apply, val_main_v9_apply]
  refine (congrArg₂ (fun a b : EReal => Ideal.div a b) ?_ ofBits_768 : _)
  refine (congrArg₂ (fun a b : EReal => a + b) ofBits_zero (Finset.sum_congr rfl fun k _ => ?_)).trans (zero_add _)
  rw [val_main_v6_apply, val_main_v5_apply, val_main_v4_apply, show idx_main_v7 (idx_main_v8 (ix2 t 0)) k = ix2 t k from ext2 rfl rfl,
    show idx_main_v4 (ix2 t k) = ix2 t 0 from ext2 rfl rfl, v3_at]
  rfl

/-- A row's entry normalised. -/
theorem v17_at (x : FVec Ideal S16384x768 .f32) (t : Fin 16384) (d : Fin 768) :
    val_main_v17 (F := Ideal) x (ix2 t d) = nrm ((768 : ℝ) : EReal) (fun k => x (ix2 t k)) d := by
  rw [← nrmH_eq (by norm_num), val_main_v17_apply, val_main_v12_apply, val_main_v11_apply, val_main_v16_apply, val_main_v15_apply, val_main_v14_apply,
    val_main_v13_apply, show idx_main_v11 (ix2 t d) = ix2 t 0 from ext2 rfl rfl, show idx_main_v16 (ix2 t d) = ix2 t 0 from ext2 rfl rfl,
    v3_at, v10_at]
  rfl

/-! ## The arguments as plain tables -/

section
variable (x0 : FVec Ideal S16384x768 .f32) (x1 x2 x3 x4 : FVec Ideal S768 .f32) (x5 : FVec Ideal S768x8 .f32) (x6 : FVec Ideal S8 .f32)
  (x7 x8 : FVec Ideal S8x768 .f32) (x9 : FVec Ideal S8x768x256 .f32) (x10 x11 x12 : FVec Ideal S8x256 .f32)
  (x13 : FVec Ideal S8x256x128 .f32) (x14 x15 x16 : FVec Ideal S8x128 .f32) (x17 : FVec Ideal S8x128x1 .f32) (x18 : FVec Ideal S8x1 .f32)

/-- The reference's arguments as plain tables. -/
def tab : Args where
  x t k := x0 (ix2 t k)
  g k := x1 (ix1 k)
  b k := x2 (ix1 k)
  rg k := x3 (ix1 k)
  rb k := x4 (ix1 k)
  W k e := x5 (ix2 k e)
  br e := x6 (ix1 e)
  g1 e k := x7 (ix2 e k)
  b1 e k := x8 (ix2 e k)
  W1 e k j := x9 (ix3 e k j)
  c1 e j := x10 (ix2 e j)
  g2 e k := x11 (ix2 e k)
  b2 e k := x12 (ix2 e k)
  W2 e k j := x13 (ix3 e k j)
  c2 e j := x14 (ix2 e j)
  g3 e k := x15 (ix2 e k)
  b3 e k := x16 (ix2 e k)
  W3 e k := x17 (ix3 e k 0)
  c3 e := x18 (ix2 e 0)

/-- A row normalised, scaled and shifted. -/
theorem v23_at (t : Fin 16384) (d : Fin 768) : val_main_v23 (F := Ideal) x0 x1 x2 (ix2 t d)
    = nrm ((768 : ℝ) : EReal) (fun k => x0 (ix2 t k)) d * x1 (ix1 d) + x2 (ix1 d) := by
  rw [val_main_v23_apply, val_main_v20_apply, v17_at, val_main_v19_apply, val_main_v18_apply, val_main_v22_apply, val_main_v21_apply,
    show idx_main_v18 (idx_main_v19 (ix2 t d)) = ix1 d from funext fun k => by fin_cases k; rfl,
    show idx_main_v21 (idx_main_v22 (ix2 t d)) = ix1 d from funext fun k => by fin_cases k; rfl]
  rfl

/-- The row normalised twice. -/
theorem z_at (t : Fin 16384) (d : Fin 768) :
    val_main_v17 (F := Ideal) (val_main_v23 (F := Ideal) x0 x1 x2) (ix2 t d) = (tab x0 x1 x2 x3 x4 x5 x6 x7 x8 x9 x10 x11 x12 x13 x14 x15 x16 x17 x18).z t d := by
  rw [v17_at]
  unfold Args.z znr
  refine congrArg (fun r : Fin 768 → EReal => nrm ((768 : ℝ) : EReal) r d) (funext fun k => ?_)
  exact v23_at x0 x1 x2 t k

/-- The row that the router reads. -/
theorem v41_at (t : Fin 16384) (d : Fin 768) : val_main_v41 (F := Ideal) x0 x1 x2 (ix2 t d) = (tab x0 x1 x2 x3 x4 x5 x6 x7 x8 x9 x10 x11 x12 x13 x14 x15 x16 x17 x18).z t d := z_at x0 x1 x2 x3 x4 x5 x6 x7 x8 x9 x10 x11 x12 x13 x14 x15 x16 x17 x18 t d

/-- The row that the experts read. -/
theorem v118_at (t : Fin 16384) (d : Fin 768) : val_main_v118 (F := Ideal) x0 x1 x2 (ix2 t d) = (tab x0 x1 x2 x3 x4 x5 x6 x7 x8 x9 x10 x11 x12 x13 x14 x15 x16 x17 x18).z t d := z_at x0 x1 x2 x3 x4 x5 x6 x7 x8 x9 x10 x11 x12 x13 x14 x15 x16 x17 x18 t d

variable (h : (tab x0 x1 x2 x3 x4 x5 x6 x7 x8 x9 x10 x11 x12 x13 x14 x15 x16 x17 x18).Real)

include h in
/-- A token's logits. -/
theorem v51_at (t : Fin 16384) (e : Fin 8) : val_main_v51 (F := Ideal) x0 x1 x2 x3 x4 x5 x6 (ix2 t e) = (tab x0 x1 x2 x3 x4 x5 x6 x7 x8 x9 x10 x11 x12 x13 x14 x15 x16 x17 x18).L t e := by
  refine Eq.trans ?_ (fold_dot (fun k => (tab x0 x1 x2 x3 x4 x5 x6 x7 x8 x9 x10 x11 x12 x13 x14 x15 x16 x17 x18).z_isR t k) (fun k => h.rg k) (fun k => h.W k e) (b := (tab x0 x1 x2 x3 x4 x5 x6 x7 x8 x9 x10 x11 x12 x13 x14 x15 x16 x17 x18).rb) (c := (tab x0 x1 x2 x3 x4 x5 x6 x7 x8 x9 x10 x11 x12 x13 x14 x15 x16 x17 x18).br e))
  rw [val_main_v51_apply, val_main_v48_apply, val_main_v50_apply, val_main_v49_apply]
  refine (congrArg₂ (fun a b : EReal => a + b) (Finset.sum_congr rfl fun k _ => ?_) (show x6 (idx_main_v49 (idx_main_v50 (ix2 t e))) = (tab x0 x1 x2 x3 x4 x5 x6 x7 x8 x9 x10 x11 x12 x13 x14 x15 x16 x17 x18).br e from congrArg x6 (show idx_main_v49 (idx_main_v50 (ix2 t e)) = ix1 e from funext fun k => by fin_cases k; rfl)) : _)
  rw [show lidx_main_v48 (ix2 t e) k = ix2 t k from ext2 rfl rfl, show ridx_main_v48 (ix2 t e) k = ix2 k e from ext2 rfl rfl,
    val_main_v47_apply, val_main_v44_apply, v41_at x0 x1 x2 x3 x4 x5 x6 x7 x8 x9 x10 x11 x12 x13 x14 x15 x16 x17 x18, val_main_v43_apply, val_main_v42_apply, val_main_v46_apply, val_main_v45_apply,
    show idx_main_v42 (idx_main_v43 (ix2 t k)) = ix1 k from funext fun k => by fin_cases k; rfl,
    show idx_main_v45 (idx_main_v46 (ix2 t k)) = ix1 k from funext fun k => by fin_cases k; rfl]
  rfl

/-! ## The experts -/

include h in
/-- An expert's first activations. -/
theorem v137_at (e : Fin 8) (t : Fin 16384) (j : Fin 256) : val_main_v137 (F := Ideal) x0 x1 x2 x7 x8 x9 x10 (ix3 e t j)
    = layer ((tab x0 x1 x2 x3 x4 x5 x6 x7 x8 x9 x10 x11 x12 x13 x14 x15 x16 x17 x18).z t) ((tab x0 x1 x2 x3 x4 x5 x6 x7 x8 x9 x10 x11 x12 x13 x14 x15 x16 x17 x18).fW1 e) ((tab x0 x1 x2 x3 x4 x5 x6 x7 x8 x9 x10 x11 x12 x13 x14 x15 x16 x17 x18).fc1 e) j := by
  have hd : val_main_v130 (F := Ideal) x0 x1 x2 x7 x8 x9 x10 (ix3 e t j)
      = (∑ k, (tab x0 x1 x2 x3 x4 x5 x6 x7 x8 x9 x10 x11 x12 x13 x14 x15 x16 x17 x18).z t k * (tab x0 x1 x2 x3 x4 x5 x6 x7 x8 x9 x10 x11 x12 x13 x14 x15 x16 x17 x18).fW1 e k j) + (tab x0 x1 x2 x3 x4 x5 x6 x7 x8 x9 x10 x11 x12 x13 x14 x15 x16 x17 x18).fc1 e j := by
    refine Eq.trans ?_ (fold_dot (fun k => (tab x0 x1 x2 x3 x4 x5 x6 x7 x8 x9 x10 x11 x12 x13 x14 x15 x16 x17 x18).z_isR t k) (fun k => h.g1 e k) (fun k => h.W1 e k j) (b := (tab x0 x1 x2 x3 x4 x5 x6 x7 x8 x9 x10 x11 x12 x13 x14 x15 x16 x17 x18).b1 e) (c := (tab x0 x1 x2 x3 x4 x5 x6 x7 x8 x9 x10 x11 x12 x13 x14 x15 x16 x17 x18).c1 e j))
    rw [val_main_v130_apply, val_main_v127_apply, val_main_v129_apply, val_main_v128_apply]
    refine (congrArg₂ (fun a b : EReal => a + b) (Finset.sum_congr rfl fun k _ => ?_) (show x10 (idx_main_v128 (idx_main_v129 (ix3 e t j))) = (tab x0 x1 x2 x3 x4 x5 x6 x7 x8 x9 x10 x11 x12 x13 x14 x15 x16 x17 x18).c1 e j from congrArg x10 (show idx_main_v128 (idx_main_v129 (ix3 e t j)) = ix2 e j from ext2 rfl rfl)) : _)
    rw [show lidx_main_v127 (ix3 e t j) k = ix3 e t k from ext3 rfl rfl rfl, show ridx_main_v127 (ix3 e t j) k = ix3 e k j from ext3 rfl rfl rfl,
      val_main_v126_apply, val_main_v123_apply, val_main_v121_apply, val_main_v120_apply,
      show idx_main_v120 (idx_main_v121 (ix3 e t k)) = ix2 t k from ext2 rfl rfl, v118_at x0 x1 x2 x3 x4 x5 x6 x7 x8 x9 x10 x11 x12 x13 x14 x15 x16 x17 x18, val_main_v122_apply, val_main_v119_apply,
      val_main_v125_apply, val_main_v124_apply, show idx_main_v119 (idx_main_v122 (ix3 e t k)) = ix2 e k from ext2 rfl rfl,
      show idx_main_v124 (idx_main_v125 (ix3 e t k)) = ix2 e k from ext2 rfl rfl]
    rfl
  unfold layer
  rw [← hd, ← gelu_erfc, val_main_v137_apply, val_main_v132_apply, val_main_v136_apply, val_main_v135_apply, val_main_v133_apply,
    val_main_v131_apply, val_main_v134_apply]
  rfl

/-- The mean of a first row of activations. -/
theorem v141_at (e : Fin 8) (t : Fin 16384) : val_main_v141 (F := Ideal) x0 x1 x2 x7 x8 x9 x10 (ix3 e t 0)
    = mean ((256 : ℝ) : EReal) fun k => val_main_v137 (F := Ideal) x0 x1 x2 x7 x8 x9 x10 (ix3 e t k) := by
  rw [val_main_v141_apply, val_main_v139_apply, val_main_v138_apply, val_main_v140_apply]
  refine (congrArg₂ (fun a b : EReal => Ideal.div a b) ?_ ofBits_256 : _)
  refine (congrArg₂ (fun a b : EReal => a + b) ofBits_zero (Finset.sum_congr rfl fun k _ => ?_)).trans (zero_add _)
  exact congrArg (val_main_v137 (F := Ideal) x0 x1 x2 x7 x8 x9 x10) (ext3 rfl rfl rfl)

/-- The variance of a first row of activations. -/
theorem v148_at (e : Fin 8) (t : Fin 16384) : val_main_v148 (F := Ideal) x0 x1 x2 x7 x8 x9 x10 (ix3 e t 0)
    = var ((256 : ℝ) : EReal) fun k => val_main_v137 (F := Ideal) x0 x1 x2 x7 x8 x9 x10 (ix3 e t k) := by
  rw [val_main_v148_apply, val_main_v146_apply, val_main_v145_apply, val_main_v147_apply]
  refine (congrArg₂ (fun a b : EReal => Ideal.div a b) ?_ ofBits_256 : _)
  refine (congrArg₂ (fun a b : EReal => a + b) ofBits_zero (Finset.sum_congr rfl fun k _ => ?_)).trans (zero_add _)
  rw [val_main_v144_apply, val_main_v143_apply, val_main_v142_apply, show idx_main_v145 (idx_main_v146 (ix3 e t 0)) k = ix3 e t k from ext3 rfl rfl rfl,
    show idx_main_v142 (ix3 e t k) = ix3 e t 0 from ext3 rfl rfl rfl, v141_at]
  rfl

/-- A first row of activations normalised. -/
theorem v155_at (e : Fin 8) (t : Fin 16384) (d : Fin 256) : val_main_v155 (F := Ideal) x0 x1 x2 x7 x8 x9 x10 (ix3 e t d)
    = nrm ((256 : ℝ) : EReal) (fun k => val_main_v137 (F := Ideal) x0 x1 x2 x7 x8 x9 x10 (ix3 e t k)) d := by
  rw [← nrmH_eq (by norm_num), val_main_v155_apply, val_main_v150_apply, val_main_v149_apply, val_main_v154_apply, val_main_v153_apply, val_main_v152_apply, val_main_v151_apply,
    show idx_main_v149 (ix3 e t d) = ix3 e t 0 from ext3 rfl rfl rfl, show idx_main_v154 (ix3 e t d) = ix3 e t 0 from ext3 rfl rfl rfl,
    v141_at, v148_at]
  rfl

include h in
/-- An expert's second activations. -/
theorem v172_at (e : Fin 8) (t : Fin 16384) (j : Fin 128) : val_main_v172 (F := Ideal) x0 x1 x2 x7 x8 x9 x10 x11 x12 x13 x14 (ix3 e t j)
    = layer (nrm ((256 : ℝ) : EReal) (layer ((tab x0 x1 x2 x3 x4 x5 x6 x7 x8 x9 x10 x11 x12 x13 x14 x15 x16 x17 x18).z t) ((tab x0 x1 x2 x3 x4 x5 x6 x7 x8 x9 x10 x11 x12 x13 x14 x15 x16 x17 x18).fW1 e) ((tab x0 x1 x2 x3 x4 x5 x6 x7 x8 x9 x10 x11 x12 x13 x14 x15 x16 x17 x18).fc1 e))) ((tab x0 x1 x2 x3 x4 x5 x6 x7 x8 x9 x10 x11 x12 x13 x14 x15 x16 x17 x18).fW2 e) ((tab x0 x1 x2 x3 x4 x5 x6 x7 x8 x9 x10 x11 x12 x13 x14 x15 x16 x17 x18).fc2 e) j := by
  have hz : (fun k => val_main_v137 (F := Ideal) x0 x1 x2 x7 x8 x9 x10 (ix3 e t k)) = layer ((tab x0 x1 x2 x3 x4 x5 x6 x7 x8 x9 x10 x11 x12 x13 x14 x15 x16 x17 x18).z t) ((tab x0 x1 x2 x3 x4 x5 x6 x7 x8 x9 x10 x11 x12 x13 x14 x15 x16 x17 x18).fW1 e) ((tab x0 x1 x2 x3 x4 x5 x6 x7 x8 x9 x10 x11 x12 x13 x14 x15 x16 x17 x18).fc1 e) :=
    funext fun k => v137_at x0 x1 x2 x3 x4 x5 x6 x7 x8 x9 x10 x11 x12 x13 x14 x15 x16 x17 x18 h e t k
  rw [← hz]
  have hd : val_main_v165 (F := Ideal) x0 x1 x2 x7 x8 x9 x10 x11 x12 x13 x14 (ix3 e t j)
      = (∑ k, nrm ((256 : ℝ) : EReal) (fun k => val_main_v137 (F := Ideal) x0 x1 x2 x7 x8 x9 x10 (ix3 e t k)) k * (tab x0 x1 x2 x3 x4 x5 x6 x7 x8 x9 x10 x11 x12 x13 x14 x15 x16 x17 x18).fW2 e k j) + (tab x0 x1 x2 x3 x4 x5 x6 x7 x8 x9 x10 x11 x12 x13 x14 x15 x16 x17 x18).fc2 e j := by
    refine Eq.trans ?_ (fold_dot (fun k => nrm_isR (by norm_num) _ k) (fun k => h.g2 e k) (fun k => h.W2 e k j) (b := (tab x0 x1 x2 x3 x4 x5 x6 x7 x8 x9 x10 x11 x12 x13 x14 x15 x16 x17 x18).b2 e) (c := (tab x0 x1 x2 x3 x4 x5 x6 x7 x8 x9 x10 x11 x12 x13 x14 x15 x16 x17 x18).c2 e j))
    rw [val_main_v165_apply, val_main_v162_apply, val_main_v164_apply, val_main_v163_apply]
    refine (congrArg₂ (fun a b : EReal => a + b) (Finset.sum_congr rfl fun k _ => ?_) (show x14 (idx_main_v163 (idx_main_v164 (ix3 e t j))) = (tab x0 x1 x2 x3 x4 x5 x6 x7 x8 x9 x10 x11 x12 x13 x14 x15 x16 x17 x18).c2 e j from congrArg x14 (show idx_main_v163 (idx_main_v164 (ix3 e t j)) = ix2 e j from ext2 rfl rfl)) : _)
    rw [show lidx_main_v162 (ix3 e t j) k = ix3 e t k from ext3 rfl rfl rfl, show ridx_main_v162 (ix3 e t j) k = ix3 e k j from ext3 rfl rfl rfl,
      val_main_v161_apply, val_main_v158_apply, v155_at, val_main_v157_apply, val_main_v156_apply,
      val_main_v160_apply, val_main_v159_apply, show idx_main_v156 (idx_main_v157 (ix3 e t k)) = ix2 e k from ext2 rfl rfl,
      show idx_main_v159 (idx_main_v160 (ix3 e t k)) = ix2 e k from ext2 rfl rfl]
    rfl
  unfold layer
  rw [← hd, ← gelu_erfc, val_main_v172_apply, val_main_v167_apply, val_main_v171_apply, val_main_v170_apply, val_main_v168_apply,
    val_main_v166_apply, val_main_v169_apply]
  rfl

/-- The mean of a second row of activations. -/
theorem v176_at (e : Fin 8) (t : Fin 16384) : val_main_v176 (F := Ideal) x0 x1 x2 x7 x8 x9 x10 x11 x12 x13 x14 (ix3 e t 0)
    = mean ((128 : ℝ) : EReal) fun k => val_main_v172 (F := Ideal) x0 x1 x2 x7 x8 x9 x10 x11 x12 x13 x14 (ix3 e t k) := by
  rw [val_main_v176_apply, val_main_v174_apply, val_main_v173_apply, val_main_v175_apply]
  refine (congrArg₂ (fun a b : EReal => Ideal.div a b) ?_ ofBits_128 : _)
  refine (congrArg₂ (fun a b : EReal => a + b) ofBits_zero (Finset.sum_congr rfl fun k _ => ?_)).trans (zero_add _)
  exact congrArg (val_main_v172 (F := Ideal) x0 x1 x2 x7 x8 x9 x10 x11 x12 x13 x14) (ext3 rfl rfl rfl)

/-- The variance of a second row of activations. -/
theorem v183_at (e : Fin 8) (t : Fin 16384) : val_main_v183 (F := Ideal) x0 x1 x2 x7 x8 x9 x10 x11 x12 x13 x14 (ix3 e t 0)
    = var ((128 : ℝ) : EReal) fun k => val_main_v172 (F := Ideal) x0 x1 x2 x7 x8 x9 x10 x11 x12 x13 x14 (ix3 e t k) := by
  rw [val_main_v183_apply, val_main_v181_apply, val_main_v180_apply, val_main_v182_apply]
  refine (congrArg₂ (fun a b : EReal => Ideal.div a b) ?_ ofBits_128 : _)
  refine (congrArg₂ (fun a b : EReal => a + b) ofBits_zero (Finset.sum_congr rfl fun k _ => ?_)).trans (zero_add _)
  rw [val_main_v179_apply, val_main_v178_apply, val_main_v177_apply, show idx_main_v180 (idx_main_v181 (ix3 e t 0)) k = ix3 e t k from ext3 rfl rfl rfl,
    show idx_main_v177 (ix3 e t k) = ix3 e t 0 from ext3 rfl rfl rfl, v176_at]
  rfl

/-- A second row of activations normalised. -/
theorem v190_at (e : Fin 8) (t : Fin 16384) (d : Fin 128) : val_main_v190 (F := Ideal) x0 x1 x2 x7 x8 x9 x10 x11 x12 x13 x14 (ix3 e t d)
    = nrm ((128 : ℝ) : EReal) (fun k => val_main_v172 (F := Ideal) x0 x1 x2 x7 x8 x9 x10 x11 x12 x13 x14 (ix3 e t k)) d := by
  rw [← nrmH_eq (by norm_num), val_main_v190_apply, val_main_v185_apply, val_main_v184_apply, val_main_v189_apply, val_main_v188_apply, val_main_v187_apply, val_main_v186_apply,
    show idx_main_v184 (ix3 e t d) = ix3 e t 0 from ext3 rfl rfl rfl, show idx_main_v189 (ix3 e t d) = ix3 e t 0 from ext3 rfl rfl rfl,
    v176_at, v183_at]
  rfl

include h in
/-- An expert's answer on a token. -/
theorem v200_at (e : Fin 8) (t : Fin 16384) : val_main_v200 (F := Ideal) x0 x1 x2 x7 x8 x9 x10 x11 x12 x13 x14 x15 x16 x17 x18 (ix3 e t 0) = (tab x0 x1 x2 x3 x4 x5 x6 x7 x8 x9 x10 x11 x12 x13 x14 x15 x16 x17 x18).ex t e := by
  have hz : (fun k => val_main_v172 (F := Ideal) x0 x1 x2 x7 x8 x9 x10 x11 x12 x13 x14 (ix3 e t k))
      = layer (nrm ((256 : ℝ) : EReal) (layer ((tab x0 x1 x2 x3 x4 x5 x6 x7 x8 x9 x10 x11 x12 x13 x14 x15 x16 x17 x18).z t) ((tab x0 x1 x2 x3 x4 x5 x6 x7 x8 x9 x10 x11 x12 x13 x14 x15 x16 x17 x18).fW1 e) ((tab x0 x1 x2 x3 x4 x5 x6 x7 x8 x9 x10 x11 x12 x13 x14 x15 x16 x17 x18).fc1 e))) ((tab x0 x1 x2 x3 x4 x5 x6 x7 x8 x9 x10 x11 x12 x13 x14 x15 x16 x17 x18).fW2 e) ((tab x0 x1 x2 x3 x4 x5 x6 x7 x8 x9 x10 x11 x12 x13 x14 x15 x16 x17 x18).fc2 e) :=
    funext fun k => v172_at x0 x1 x2 x3 x4 x5 x6 x7 x8 x9 x10 x11 x12 x13 x14 x15 x16 x17 x18 h e t k
  unfold Args.ex expert
  rw [← hz]
  refine Eq.trans ?_ (fold_dot (fun k => nrm_isR (by norm_num) _ k) (fun k => h.g3 e k) (fun k => h.W3 e k) (b := (tab x0 x1 x2 x3 x4 x5 x6 x7 x8 x9 x10 x11 x12 x13 x14 x15 x16 x17 x18).b3 e) (c := (tab x0 x1 x2 x3 x4 x5 x6 x7 x8 x9 x10 x11 x12 x13 x14 x15 x16 x17 x18).c3 e))
  rw [val_main_v200_apply, val_main_v197_apply, val_main_v199_apply, val_main_v198_apply]
  refine (congrArg₂ (fun a b : EReal => a + b) (Finset.sum_congr rfl fun k _ => ?_) (show x18 (idx_main_v198 (idx_main_v199 (ix3 e t 0))) = (tab x0 x1 x2 x3 x4 x5 x6 x7 x8 x9 x10 x11 x12 x13 x14 x15 x16 x17 x18).c3 e from congrArg x18 (show idx_main_v198 (idx_main_v199 (ix3 e t 0)) = ix2 e 0 from ext2 rfl rfl)) : _)
  rw [show lidx_main_v197 (ix3 e t 0) k = ix3 e t k from ext3 rfl rfl rfl, show ridx_main_v197 (ix3 e t 0) k = ix3 e k 0 from ext3 rfl rfl rfl,
    val_main_v196_apply, val_main_v193_apply, v190_at, val_main_v192_apply, val_main_v191_apply,
    val_main_v195_apply, val_main_v194_apply, show idx_main_v191 (idx_main_v192 (ix3 e t k)) = ix2 e k from ext2 rfl rfl,
    show idx_main_v194 (idx_main_v195 (ix3 e t k)) = ix2 e k from ext2 rfl rfl]
  rfl

end

end Cert.ReferenceIdeal.Rows
-- ==== Proof.RefGates.lean ====
/-
  The reference's routing read at an index: the two choices, their gates, the scatter of the gates, and the two statistics.
-/
module

public import proofs.«01_k».proof.Proof.RefRows
public import Idealize.ShloMosaic.Lib.ScatterToDense.RefScatter

@[expose] public section

noncomputable section

namespace Cert.ReferenceIdeal.Gates

open Cert.ReferenceIdeal Cert.ReferenceIdeal.Gen Cert.ReferenceIdeal.Read Idealize.ShloMosaic Idealize.ShloMosaic.TcCoe Idealize.ShloMosaic.ValueIdx
open Cert.Alg Cert.Router Cert.Spec Cert.ReferenceIdeal.Rows Idealize.ShloMosaic.ScatterToDense

/-! ## The two choices -/

/-- The sort of a row by the comparison of its entries is the sort of the row. -/
theorem sort_at (x : FVec Ideal S16384x8 .f32) (y : IVec S16384x8 32) (r : Fin 8 → EReal) (t : Fin 16384) (hx : ∀ e, x (ix2 t e) = r e) (k : Fin 8) :
    (Host.sort2 S16384x8 1 (fun a b => FloatOps.cmpfTotal (F := Ideal) (φ := .f32) .gt a.1 b.1) x y).1 (ix2 t k) = r (sortedFrom (before r) k)
      ∧ (Host.sort2 S16384x8 1 (fun a b => FloatOps.cmpfTotal (F := Ideal) (φ := .f32) .gt a.1 b.1) x y).2 (ix2 t k) = y (ix2 t (sortedFrom (before r) k)) := by
  have hal : ∀ q : Fin 8, Shape.Idx.along (s := S16384x8) (ix2 t k) 1 q = ix2 t q := fun q => ext2 rfl rfl
  have hb : (fun a b : Fin 8 => (FloatOps.cmpfTotal (F := Ideal) (φ := .f32) .gt (x (Shape.Idx.along (s := S16384x8) (ix2 t k) 1 a))
      (x (Shape.Idx.along (s := S16384x8) (ix2 t k) 1 b)) == 1#1)) = before r := by
    funext a b
    rw [hal, hal, hx, hx]
    unfold before
    by_cases h : r b < r a
    · rw [show FloatOps.cmpfTotal (F := Ideal) (φ := .f32) .gt (r a) (r b) = BitVec.ofBool (decide (r b < r a)) from rfl, decide_eq_true h]; rfl
    · rw [show FloatOps.cmpfTotal (F := Ideal) (φ := .f32) .gt (r a) (r b) = BitVec.ofBool (decide (r b < r a)) from rfl, decide_eq_false h]; rfl
  have hs : (1 : ℕ) < S16384x8.rank := by decide
  unfold Host.sort2
  rw [dif_pos hs]
  constructor
  · refine Eq.trans ?_ (hx _)
    refine congrArg x ?_
    refine Eq.trans ?_ (hal _)
    exact congrArg (fun f => Shape.Idx.along (s := S16384x8) (ix2 t k) 1 (sortedFrom f k)) hb
  · refine congrArg y ?_
    refine Eq.trans ?_ (hal _)
    exact congrArg (fun f => Shape.Idx.along (s := S16384x8) (ix2 t k) 1 (sortedFrom f k)) hb

/-- The two greatest of a row, and their positions. -/
theorem topK_at (x : FVec Ideal S16384x8 .f32) (r : Fin 8 → EReal) (t : Fin 16384) (hx : ∀ e, x (ix2 t e) = r e) (k : Fin 2) (k' : Fin 8)
    (hk : k'.val = k.val) :
    (Host.topK S16384x2 1 (FloatOps.cmpfTotal (F := Ideal) (φ := .f32) .gt) x sliceFits_S16384x8_S16384x2).1 (ix2 t k) = r (sortedFrom (before r) k')
      ∧ (Host.topK S16384x2 1 (FloatOps.cmpfTotal (F := Ideal) (φ := .f32) .gt) x sliceFits_S16384x8_S16384x2).2 (ix2 t k)
        = word (sortedFrom (before r) k') := by
  have hi : ∀ a : Fin S16384x8.rank, ((ix2 t k' : S16384x8.Idx) a).val
      = (fun _ => 0 : Fin S16384x8.rank → ℕ) a + ((ix2 t k : S16384x2.Idx) (a.cast sliceFits_S16384x8_S16384x2.1.symm)).val := fun a => by
    fin_cases a
    · exact (Nat.zero_add _).symm
    · exact hk.trans (Nat.zero_add _).symm
  let y : IVec S16384x8 32 := fun i => if hd : 1 < S16384x8.rank then iotaInDim S16384x8 32 ⟨1, hd⟩ i else 0#32
  constructor
  · exact (extractStridedSlice_apply _ _ sliceFits_S16384x8_S16384x2 (ix2 t k) (ix2 t k') hi).trans (sort_at x y r t hx k').1
  · exact ((extractStridedSlice_apply _ _ sliceFits_S16384x8_S16384x2 (ix2 t k) (ix2 t k') hi).trans (sort_at x y r t hx k').2).trans rfl

/-- The largest of a row is the entry that none exceeds. -/
theorem fold_max_of {n : ℕ} {f : Fin n → EReal} {i : Fin n} (h : ∀ k, f k ≤ f i) : (Finset.univ : Finset (Fin n)).fold max ⊥ f = f i :=
  le_antisymm ((Finset.fold_max_le _).mpr ⟨bot_le, fun k _ => h k⟩) ((Finset.le_fold_max _).mpr (Or.inr ⟨i, Finset.mem_univ i, le_rfl⟩))

/-! ## The gates as reals -/

/-- The exponential of a difference of reals is a positive real. -/
theorem gap_pos (L : Fin 8 → EReal) (hL : ∀ e, IsR (L e)) : ∃ r : ℝ, 0 < r ∧ gap L = (r : EReal) := by
  obtain ⟨a, ha⟩ := hL (snd L); obtain ⟨b, hb⟩ := hL (fst L)
  exact ⟨Real.exp (a - b), Real.exp_pos _, by unfold gap; rw [ha, hb, ← EReal.coe_sub]; rfl⟩

/-- A gate is positive exactly where the row chose the expert, and there the choice counts once. -/
theorem gate_hit (L : Fin 8 → EReal) (hL : ∀ e, IsR (L e)) (e : Fin 8) :
    (((BitVec.ofBool (decide (0 < gate L e))).toNat : ℝ) : EReal) = hit L e := by
  obtain ⟨r, hr, h⟩ := gap_pos L hL
  have h1 : (1 : EReal) + (r : EReal) = ((1 + r : ℝ) : EReal) := by rw [EReal.coe_add]; rfl
  have hp : (1 + r : ℝ) ≠ 0 := by positivity
  have hA : 0 < Ideal.div 1 (1 + (r : EReal)) := by
    rw [h1, Ideal.div_coe hp, one_mul]; exact_mod_cast (by positivity : (0 : ℝ) < 1 / (1 + r))
  have hB : 0 < Ideal.div (r : EReal) (1 + (r : EReal)) := by
    rw [h1, Ideal.div_coe hp, ← EReal.coe_mul]; exact_mod_cast (by positivity : (0 : ℝ) < r * (1 / (1 + r)))
  unfold gate hit
  rw [h]
  by_cases h1 : e = fst L
  · have h2 : ¬ e = snd L := fun q => snd_ne_fst L (q.symm.trans h1)
    rw [if_pos h1, if_neg h2, if_pos h1, if_neg h2, add_zero, add_zero, decide_eq_true hA]
    simp
  · by_cases h2 : e = snd L
    · rw [if_neg h1, if_pos h2, if_neg h1, if_pos h2, zero_add, zero_add, decide_eq_true hB]
      simp
    · rw [if_neg h1, if_neg h2, if_neg h1, if_neg h2, add_zero]
      simp

/-! ## The stages -/

section
variable (x0 : FVec Ideal S16384x768 .f32) (x1 x2 x3 x4 : FVec Ideal S768 .f32) (x5 : FVec Ideal S768x8 .f32) (x6 : FVec Ideal S8 .f32)
  (x7 x8 : FVec Ideal S8x768 .f32) (x9 : FVec Ideal S8x768x256 .f32) (x10 x11 x12 : FVec Ideal S8x256 .f32)
  (x13 : FVec Ideal S8x256x128 .f32) (x14 x15 x16 : FVec Ideal S8x128 .f32) (x17 : FVec Ideal S8x128x1 .f32) (x18 : FVec Ideal S8x1 .f32)
  (h : (tab x0 x1 x2 x3 x4 x5 x6 x7 x8 x9 x10 x11 x12 x13 x14 x15 x16 x17 x18).Real)

include h

/-- The two greatest logits of a token. -/
theorem values_at (t : Fin 16384) : val_main_values (F := Ideal) x0 x1 x2 x3 x4 x5 x6 (ix2 t 0) = (tab x0 x1 x2 x3 x4 x5 x6 x7 x8 x9 x10 x11 x12 x13 x14 x15 x16 x17 x18).L t (fst ((tab x0 x1 x2 x3 x4 x5 x6 x7 x8 x9 x10 x11 x12 x13 x14 x15 x16 x17 x18).L t))
    ∧ val_main_values (F := Ideal) x0 x1 x2 x3 x4 x5 x6 (ix2 t 1) = (tab x0 x1 x2 x3 x4 x5 x6 x7 x8 x9 x10 x11 x12 x13 x14 x15 x16 x17 x18).L t (snd ((tab x0 x1 x2 x3 x4 x5 x6 x7 x8 x9 x10 x11 x12 x13 x14 x15 x16 x17 x18).L t)) :=
  ⟨(topK_at _ _ t (fun e => v51_at x0 x1 x2 x3 x4 x5 x6 x7 x8 x9 x10 x11 x12 x13 x14 x15 x16 x17 x18 h t e) 0 0 rfl).1, (topK_at _ _ t (fun e => v51_at x0 x1 x2 x3 x4 x5 x6 x7 x8 x9 x10 x11 x12 x13 x14 x15 x16 x17 x18 h t e) 1 1 rfl).1⟩

/-- The two chosen experts of a token. -/
theorem indices_at (t : Fin 16384) : val_main_indices (F := Ideal) x0 x1 x2 x3 x4 x5 x6 (ix2 t 0) = word (fst ((tab x0 x1 x2 x3 x4 x5 x6 x7 x8 x9 x10 x11 x12 x13 x14 x15 x16 x17 x18).L t))
    ∧ val_main_indices (F := Ideal) x0 x1 x2 x3 x4 x5 x6 (ix2 t 1) = word (snd ((tab x0 x1 x2 x3 x4 x5 x6 x7 x8 x9 x10 x11 x12 x13 x14 x15 x16 x17 x18).L t)) :=
  ⟨(topK_at _ _ t (fun e => v51_at x0 x1 x2 x3 x4 x5 x6 x7 x8 x9 x10 x11 x12 x13 x14 x15 x16 x17 x18 h t e) 0 0 rfl).2, (topK_at _ _ t (fun e => v51_at x0 x1 x2 x3 x4 x5 x6 x7 x8 x9 x10 x11 x12 x13 x14 x15 x16 x17 x18 h t e) 1 1 rfl).2⟩

/-- The larger of the two is the first. -/
theorem v54_at (t : Fin 16384) : val_main_v54 (F := Ideal) x0 x1 x2 x3 x4 x5 x6 (ix1 t) = (tab x0 x1 x2 x3 x4 x5 x6 x7 x8 x9 x10 x11 x12 x13 x14 x15 x16 x17 x18).L t (fst ((tab x0 x1 x2 x3 x4 x5 x6 x7 x8 x9 x10 x11 x12 x13 x14 x15 x16 x17 x18).L t)) := by
  obtain ⟨e0, e1⟩ := values_at x0 x1 x2 x3 x4 x5 x6 x7 x8 x9 x10 x11 x12 x13 x14 x15 x16 x17 x18 h t
  have hm : val_main_v52 (F := Ideal) x0 x1 x2 x3 x4 x5 x6 (ix1 t) = (tab x0 x1 x2 x3 x4 x5 x6 x7 x8 x9 x10 x11 x12 x13 x14 x15 x16 x17 x18).L t (fst ((tab x0 x1 x2 x3 x4 x5 x6 x7 x8 x9 x10 x11 x12 x13 x14 x15 x16 x17 x18).L t)) := by
    unfold val_main_v52
    rw [Host.reduce_eq_fold_single (FloatOps.maximumf (F := Ideal) (φ := .f32)) _ _ _ (by decide : S16384x2.Reduces [1] S16384)]
    have hf : (fun k : Fin 2 => val_main_values (F := Ideal) x0 x1 x2 x3 x4 x5 x6 ((by decide : S16384x2.Reduces [1] S16384).lift (ix1 t) k))
        = fun k : Fin 2 => val_main_values (F := Ideal) x0 x1 x2 x3 x4 x5 x6 (ix2 t k) :=
      funext fun k => congrArg (val_main_values (F := Ideal) x0 x1 x2 x3 x4 x5 x6) (by funext c; apply Fin.ext; fin_cases c <;> rfl)
    refine Eq.trans ?_ e0
    refine Eq.trans ?_ (fold_max_of (f := fun k : Fin 2 => val_main_values (F := Ideal) x0 x1 x2 x3 x4 x5 x6 (ix2 t k)) (i := 0) fun k => ?_)
    · exact congrArg₂ (fun (a : EReal) (f : Fin 2 → EReal) => (Finset.univ : Finset (Fin 2)).fold max a f) ofBits_neg_inf hf
    · fin_cases k
      · exact le_rfl
      · show val_main_values (F := Ideal) x0 x1 x2 x3 x4 x5 x6 (ix2 t 1) ≤ val_main_values (F := Ideal) x0 x1 x2 x3 x4 x5 x6 (ix2 t 0)
        rw [e0, e1]
        exact (top_fst _).le _
  rw [val_main_v54_apply, hm, val_main_v53_apply]
  refine (congrArg (fun a : EReal => max a _) ofBits_neg_inf).trans ?_
  exact max_eq_right bot_le

/-- The exponentials of the two, each less the larger. -/
theorem v58_at (t : Fin 16384) : val_main_v58 (F := Ideal) x0 x1 x2 x3 x4 x5 x6 (ix2 t 0) = 1 ∧ val_main_v58 (F := Ideal) x0 x1 x2 x3 x4 x5 x6 (ix2 t 1) = gap ((tab x0 x1 x2 x3 x4 x5 x6 x7 x8 x9 x10 x11 x12 x13 x14 x15 x16 x17 x18).L t) := by
  obtain ⟨e0, e1⟩ := values_at x0 x1 x2 x3 x4 x5 x6 x7 x8 x9 x10 x11 x12 x13 x14 x15 x16 x17 x18 h t
  have hv : ∀ k : Fin 2, val_main_v56 (F := Ideal) x0 x1 x2 x3 x4 x5 x6 (ix2 t k) = (tab x0 x1 x2 x3 x4 x5 x6 x7 x8 x9 x10 x11 x12 x13 x14 x15 x16 x17 x18).L t (fst ((tab x0 x1 x2 x3 x4 x5 x6 x7 x8 x9 x10 x11 x12 x13 x14 x15 x16 x17 x18).L t)) := fun k => by
    rw [val_main_v56_apply, val_main_v55_apply, show idx_main_v55 (idx_main_v56 (ix2 t k)) = ix1 t from funext fun q => by fin_cases q; rfl, v54_at x0 x1 x2 x3 x4 x5 x6 x7 x8 x9 x10 x11 x12 x13 x14 x15 x16 x17 x18 h]
  constructor
  · rw [val_main_v58_apply, val_main_v57_apply, hv, e0]
    obtain ⟨a, ha⟩ := (Args.L_isR h t (fst ((tab x0 x1 x2 x3 x4 x5 x6 x7 x8 x9 x10 x11 x12 x13 x14 x15 x16 x17 x18).L t)))
    show Ideal.exp ((tab x0 x1 x2 x3 x4 x5 x6 x7 x8 x9 x10 x11 x12 x13 x14 x15 x16 x17 x18).L t (fst ((tab x0 x1 x2 x3 x4 x5 x6 x7 x8 x9 x10 x11 x12 x13 x14 x15 x16 x17 x18).L t)) - (tab x0 x1 x2 x3 x4 x5 x6 x7 x8 x9 x10 x11 x12 x13 x14 x15 x16 x17 x18).L t (fst ((tab x0 x1 x2 x3 x4 x5 x6 x7 x8 x9 x10 x11 x12 x13 x14 x15 x16 x17 x18).L t))) = 1
    rw [ha, ← EReal.coe_sub, sub_self]
    show ((Real.exp 0 : ℝ) : EReal) = 1
    rw [Real.exp_zero]; rfl
  · rw [val_main_v58_apply, val_main_v57_apply, hv, e1]
    rfl

/-- The gates of the two. -/
theorem v62_at (t : Fin 16384) : val_main_v62 (F := Ideal) x0 x1 x2 x3 x4 x5 x6 (ix2 t 0) = Ideal.div 1 (1 + gap ((tab x0 x1 x2 x3 x4 x5 x6 x7 x8 x9 x10 x11 x12 x13 x14 x15 x16 x17 x18).L t))
    ∧ val_main_v62 (F := Ideal) x0 x1 x2 x3 x4 x5 x6 (ix2 t 1) = Ideal.div (gap ((tab x0 x1 x2 x3 x4 x5 x6 x7 x8 x9 x10 x11 x12 x13 x14 x15 x16 x17 x18).L t)) (1 + gap ((tab x0 x1 x2 x3 x4 x5 x6 x7 x8 x9 x10 x11 x12 x13 x14 x15 x16 x17 x18).L t)) := by
  obtain ⟨e0, e1⟩ := v58_at x0 x1 x2 x3 x4 x5 x6 x7 x8 x9 x10 x11 x12 x13 x14 x15 x16 x17 x18 h t
  have hs : ∀ k : Fin 2, val_main_v61 (F := Ideal) x0 x1 x2 x3 x4 x5 x6 (ix2 t k) = 1 + gap ((tab x0 x1 x2 x3 x4 x5 x6 x7 x8 x9 x10 x11 x12 x13 x14 x15 x16 x17 x18).L t) := fun k => by
    rw [val_main_v61_apply, val_main_v60_apply, val_main_v59_apply, Fin.sum_univ_two]
    rw [show idx_main_v59 (idx_main_v60 (idx_main_v61 (ix2 t k))) 0 = ix2 t 0 from ext2 rfl rfl,
      show idx_main_v59 (idx_main_v60 (idx_main_v61 (ix2 t k))) 1 = ix2 t 1 from ext2 rfl rfl, e0, e1]
    exact (congrArg (fun a : EReal => a + (1 + gap ((tab x0 x1 x2 x3 x4 x5 x6 x7 x8 x9 x10 x11 x12 x13 x14 x15 x16 x17 x18).L t))) ofBits_zero).trans (zero_add _)
  constructor
  · rw [val_main_v62_apply, hs, e0]; rfl
  · rw [val_main_v62_apply, hs, e1]; rfl

omit h in
/-- The word of a token, its wrap included. -/
theorem v77_at (t : Fin 16384) (k : Fin 2) : val_main_v77 (F := Ideal) (ix3 t k 0) = BitVec.ofNat 32 t.val := by
  rw [val_main_v77_apply, val_main_v76_apply, val_main_v70_apply, val_main_v67_apply, val_main_v65_apply, val_main_v66_apply]
  exact Routing.wrap_of_lt (BitVec.ofNat 32 t.val) _ (by
    rw [BitVec.toNat_ofNat]
    exact Nat.lt_of_le_of_lt (Nat.mod_le _ _) (by have := t.isLt; show t.val < 2 ^ 31; omega))

omit h in
/-- An expert's word is small. -/
theorem word_lt (i : Fin 8) : (word i).toNat < 2 ^ (32 - 1) := by revert i; decide

omit h in
/-- The wrap leaves an expert's word. -/
theorem v78_at (t : Fin 16384) (k : Fin 2) (i : Fin 8) (hi : val_main_indices (F := Ideal) x0 x1 x2 x3 x4 x5 x6 (ix2 t k) = word i) :
    val_main_v78 (F := Ideal) x0 x1 x2 x3 x4 x5 x6 (ix3 t k 0) = word i := by
  rw [val_main_v78_apply, show idx_main_v78 (ix3 t k 0) = ix2 t k from ext2 rfl rfl, val_main_v75_apply, val_main_v72_apply, hi, val_main_v71_apply]
  exact Routing.wrap_of_lt (word i) _ (word_lt i)

omit h in
/-- The index pairs: the token's word. -/
theorem v79_tok (t : Fin 16384) (k : Fin 2) : val_main_v79 (F := Ideal) x0 x1 x2 x3 x4 x5 x6 (ix3 t k 0) = BitVec.ofNat 32 t.val := by
  unfold val_main_v79
  rw [concatenate_pair_apply_left (t := S16384x2x2) (s₁ := S16384x2x1) (s₂ := S16384x2x1) 2 _ _ _ (ix3 t k 0) rfl (ix3 t k 0) (fun b => by fin_cases b <;> rfl)]
  exact v77_at t k

omit h in
/-- The index pairs: the expert's word. -/
theorem v79_word (t : Fin 16384) (k : Fin 2) (i : Fin 8) (hi : val_main_indices (F := Ideal) x0 x1 x2 x3 x4 x5 x6 (ix2 t k) = word i) :
    val_main_v79 (F := Ideal) x0 x1 x2 x3 x4 x5 x6 (ix3 t k 1) = word i := by
  unfold val_main_v79
  rw [concatenate_pair_apply_right (t := S16384x2x2) (s₁ := S16384x2x1) (s₂ := S16384x2x1) 2 _ _ _ (ix3 t k 1) rfl rfl (ix3 t k 0)
    (fun b hb => by fin_cases b <;> first | rfl | exact absurd rfl hb) rfl]
  exact v78_at x0 x1 x2 x3 x4 x5 x6 t k i hi

/-- The gates scattered. -/
theorem v80_at (t : Fin 16384) (e : Fin 8) : val_main_v80 (F := Ideal) x0 x1 x2 x3 x4 x5 x6 (ix2 t e) = gate ((tab x0 x1 x2 x3 x4 x5 x6 x7 x8 x9 x10 x11 x12 x13 x14 x15 x16 x17 x18).L t) e := by
  unfold val_main_v80
  rw [scatter_eq_GS scatter_S16384x8_S16384x2x2_S16384x2_n_01_01_2 rfl rfl rfl (by decide) (by decide) _ _ _
    (fun i k => if k = 0 then word (fst ((tab x0 x1 x2 x3 x4 x5 x6 x7 x8 x9 x10 x11 x12 x13 x14 x15 x16 x17 x18).L i)) else word (snd ((tab x0 x1 x2 x3 x4 x5 x6 x7 x8 x9 x10 x11 x12 x13 x14 x15 x16 x17 x18).L i)))
    (fun i k => if k = 0 then Ideal.div 1 (1 + gap ((tab x0 x1 x2 x3 x4 x5 x6 x7 x8 x9 x10 x11 x12 x13 x14 x15 x16 x17 x18).L i)) else Ideal.div (gap ((tab x0 x1 x2 x3 x4 x5 x6 x7 x8 x9 x10 x11 x12 x13 x14 x15 x16 x17 x18).L i)) (1 + gap ((tab x0 x1 x2 x3 x4 x5 x6 x7 x8 x9 x10 x11 x12 x13 x14 x15 x16 x17 x18).L i)))
    (fun i k => v79_tok x0 x1 x2 x3 x4 x5 x6 i k) (fun i k => ?_) (fun i k => ?_)]
  · rw [GS_succ, GS_succ, GS_zero]
    have hw : ∀ i : Fin 8, (e.val = (word i).toNat) ↔ e = i := by revert e; decide
    have hz : val_main_v63 (F := Ideal) (ix2 t e) = (0 : EReal) := by rw [val_main_v63_apply]; exact ofBits_zero
    simp only [if_true, if_neg (show ¬ (1 : ℕ) = 0 by decide), hw]
    rw [hz]
    unfold gate
    by_cases h1 : e = fst ((tab x0 x1 x2 x3 x4 x5 x6 x7 x8 x9 x10 x11 x12 x13 x14 x15 x16 x17 x18).L t)
    · have h2 : ¬ e = snd ((tab x0 x1 x2 x3 x4 x5 x6 x7 x8 x9 x10 x11 x12 x13 x14 x15 x16 x17 x18).L t) := fun q => snd_ne_fst _ (q.symm.trans h1)
      rw [if_neg h2, if_pos h1, if_neg h2, add_zero]
    · rw [if_neg h1, zero_add]
  · obtain ⟨e0, e1⟩ := indices_at x0 x1 x2 x3 x4 x5 x6 x7 x8 x9 x10 x11 x12 x13 x14 x15 x16 x17 x18 h i
    fin_cases k
    · exact v79_word x0 x1 x2 x3 x4 x5 x6 i 0 _ e0
    · exact v79_word x0 x1 x2 x3 x4 x5 x6 i 1 _ e1
  · obtain ⟨e0, e1⟩ := v62_at x0 x1 x2 x3 x4 x5 x6 x7 x8 x9 x10 x11 x12 x13 x14 x15 x16 x17 x18 h i
    fin_cases k
    · exact e0
    · exact e1

/-! ## The results -/

/-- The fraction of the tokens routed to each expert. -/
theorem v206_at (i : S1x8.Idx) (e : Fin 8) (he : i 1 = e) : val_main_v206 (F := Ideal) x0 x1 x2 x3 x4 x5 x6 i = (tab x0 x1 x2 x3 x4 x5 x6 x7 x8 x9 x10 x11 x12 x13 x14 x15 x16 x17 x18).frac e := by
  rw [val_main_v206_apply, val_main_v86_apply, val_main_v84_apply, val_main_v85_apply]
  refine (congrArg₂ (fun a b : EReal => Ideal.div a b) ((congrArg₂ (fun a b : EReal => a + b) ofBits_zero
    (Finset.sum_congr rfl fun t _ => ?_)).trans (zero_add (∑ t, hit ((tab x0 x1 x2 x3 x4 x5 x6 x7 x8 x9 x10 x11 x12 x13 x14 x15 x16 x17 x18).L t) e))) ofBits_16384).trans (Ideal.div_coe (by norm_num) _)
  rw [show idx_main_v84 (idx_main_v206 i) t = ix2 t e from ext2 rfl he, val_main_v83_apply, val_main_v82_apply, v80_at x0 x1 x2 x3 x4 x5 x6 x7 x8 x9 x10 x11 x12 x13 x14 x15 x16 x17 x18 h, val_main_v81_apply,
    ← gate_hit _ fun e => Args.L_isR h t e, ← ofBits_zero]
  rfl

/-- The largest logit of a token. -/
theorem v89_at (t : Fin 16384) : val_main_v89 (F := Ideal) x0 x1 x2 x3 x4 x5 x6 (ix1 t) = (tab x0 x1 x2 x3 x4 x5 x6 x7 x8 x9 x10 x11 x12 x13 x14 x15 x16 x17 x18).L t (fst ((tab x0 x1 x2 x3 x4 x5 x6 x7 x8 x9 x10 x11 x12 x13 x14 x15 x16 x17 x18).L t)) := by
  have hm : val_main_v87 (F := Ideal) x0 x1 x2 x3 x4 x5 x6 (ix1 t) = (tab x0 x1 x2 x3 x4 x5 x6 x7 x8 x9 x10 x11 x12 x13 x14 x15 x16 x17 x18).L t (fst ((tab x0 x1 x2 x3 x4 x5 x6 x7 x8 x9 x10 x11 x12 x13 x14 x15 x16 x17 x18).L t)) := by
    unfold val_main_v87
    rw [Host.reduce_eq_fold_single (FloatOps.maximumf (F := Ideal) (φ := .f32)) _ _ _ (by decide : S16384x8.Reduces [1] S16384)]
    refine Eq.trans ?_ (fold_max (top_fst ((tab x0 x1 x2 x3 x4 x5 x6 x7 x8 x9 x10 x11 x12 x13 x14 x15 x16 x17 x18).L t)))
    refine congrArg₂ (fun (a : EReal) (f : Fin 8 → EReal) => (Finset.univ : Finset (Fin 8)).fold max a f) ofBits_neg_inf (funext fun k => ?_)
    refine Eq.trans ?_ (v51_at x0 x1 x2 x3 x4 x5 x6 x7 x8 x9 x10 x11 x12 x13 x14 x15 x16 x17 x18 h t k)
    exact congrArg (val_main_v51 (F := Ideal) x0 x1 x2 x3 x4 x5 x6) (by funext c; apply Fin.ext; fin_cases c <;> rfl)
  rw [val_main_v89_apply, hm, val_main_v88_apply]
  refine (congrArg (fun a : EReal => max a _) ofBits_neg_inf).trans ?_
  exact max_eq_right bot_le

/-- The router probabilities of a token. -/
theorem v97_at (t : Fin 16384) (e : Fin 8) : val_main_v97 (F := Ideal) x0 x1 x2 x3 x4 x5 x6 (ix2 t e) = prob ((tab x0 x1 x2 x3 x4 x5 x6 x7 x8 x9 x10 x11 x12 x13 x14 x15 x16 x17 x18).L t) e := by
  have he : ∀ e : Fin 8, val_main_v93 (F := Ideal) x0 x1 x2 x3 x4 x5 x6 (ix2 t e) = Ideal.exp ((tab x0 x1 x2 x3 x4 x5 x6 x7 x8 x9 x10 x11 x12 x13 x14 x15 x16 x17 x18).L t e - (tab x0 x1 x2 x3 x4 x5 x6 x7 x8 x9 x10 x11 x12 x13 x14 x15 x16 x17 x18).L t (fst ((tab x0 x1 x2 x3 x4 x5 x6 x7 x8 x9 x10 x11 x12 x13 x14 x15 x16 x17 x18).L t))) := fun e => by
    rw [val_main_v93_apply, val_main_v92_apply, v51_at x0 x1 x2 x3 x4 x5 x6 x7 x8 x9 x10 x11 x12 x13 x14 x15 x16 x17 x18 h, val_main_v91_apply, val_main_v90_apply,
      show idx_main_v90 (idx_main_v91 (ix2 t e)) = ix1 t from funext fun q => by fin_cases q; rfl, v89_at x0 x1 x2 x3 x4 x5 x6 x7 x8 x9 x10 x11 x12 x13 x14 x15 x16 x17 x18 h]
    rfl
  unfold prob
  rw [val_main_v97_apply, he, val_main_v96_apply, val_main_v95_apply, val_main_v94_apply]
  refine congrArg (fun a : EReal => Ideal.div _ a) ((congrArg₂ (fun a b : EReal => a + b) ofBits_zero
    (Finset.sum_congr rfl fun k _ => ?_)).trans (zero_add (∑ k, Ideal.exp ((tab x0 x1 x2 x3 x4 x5 x6 x7 x8 x9 x10 x11 x12 x13 x14 x15 x16 x17 x18).L t k - (tab x0 x1 x2 x3 x4 x5 x6 x7 x8 x9 x10 x11 x12 x13 x14 x15 x16 x17 x18).L t (fst ((tab x0 x1 x2 x3 x4 x5 x6 x7 x8 x9 x10 x11 x12 x13 x14 x15 x16 x17 x18).L t))))))
  rw [← he]
  exact congrArg (val_main_v93 (F := Ideal) x0 x1 x2 x3 x4 x5 x6) (ext2 rfl rfl)

/-- The mean router probability of each expert. -/
theorem v207_at (i : S1x8.Idx) (e : Fin 8) (he : i 1 = e) : val_main_v207 (F := Ideal) x0 x1 x2 x3 x4 x5 x6 i = (tab x0 x1 x2 x3 x4 x5 x6 x7 x8 x9 x10 x11 x12 x13 x14 x15 x16 x17 x18).pmean e := by
  rw [val_main_v207_apply, val_main_v100_apply, val_main_v98_apply, val_main_v99_apply]
  refine (congrArg₂ (fun a b : EReal => Ideal.div a b) ((congrArg₂ (fun a b : EReal => a + b) ofBits_zero
    (Finset.sum_congr rfl fun t _ => ?_)).trans (zero_add (∑ t, prob ((tab x0 x1 x2 x3 x4 x5 x6 x7 x8 x9 x10 x11 x12 x13 x14 x15 x16 x17 x18).L t) e))) ofBits_16384).trans (Ideal.div_coe (by norm_num) _)
  rw [show idx_main_v98 (idx_main_v207 i) t = ix2 t e from ext2 rfl he, v97_at x0 x1 x2 x3 x4 x5 x6 x7 x8 x9 x10 x11 x12 x13 x14 x15 x16 x17 x18 h]

/-- The gated sum of the experts' answers. -/
theorem v205_at (i : S16384x1.Idx) (t : Fin 16384) (ht : i 0 = t) : val_main_v205 (F := Ideal) x0 x1 x2 x3 x4 x5 x6 x7 x8 x9 x10 x11 x12 x13 x14 x15 x16 x17 x18 i = (tab x0 x1 x2 x3 x4 x5 x6 x7 x8 x9 x10 x11 x12 x13 x14 x15 x16 x17 x18).y t := by
  rw [val_main_v205_apply, val_main_v204_apply]
  refine (congrArg₂ (fun a b : EReal => a + b) ofBits_zero (Finset.sum_congr rfl fun e _ => ?_)).trans (zero_add (∑ e, (tab x0 x1 x2 x3 x4 x5 x6 x7 x8 x9 x10 x11 x12 x13 x14 x15 x16 x17 x18).ex t e * gate ((tab x0 x1 x2 x3 x4 x5 x6 x7 x8 x9 x10 x11 x12 x13 x14 x15 x16 x17 x18).L t) e))
  rw [show idx_main_v204 (idx_main_v205 i) e = ix2 t e from ext2 ht rfl, val_main_v203_apply, v80_at x0 x1 x2 x3 x4 x5 x6 x7 x8 x9 x10 x11 x12 x13 x14 x15 x16 x17 x18 h, val_main_v202_apply,
    show idx_main_v202 (ix2 t e) = ix2 e t from ext2 rfl rfl, val_main_v201_apply,
    show idx_main_v201 (ix2 e t) = ix3 e t 0 from ?_, v200_at x0 x1 x2 x3 x4 x5 x6 x7 x8 x9 x10 x11 x12 x13 x14 x15 x16 x17 x18 h]
  · rfl
  · have hi : t.val < 16384 := t.isLt
    refine ext3 (Fin.ext ?_) (Fin.ext ?_) rfl
    · show (e.val * 16384 + t.val) / 16384 = e.val
      omega
    · show (e.val * 16384 + t.val) / 1 % 16384 = t.val
      omega

end

end Cert.ReferenceIdeal.Gates
-- ==== Proof.Pre.lean ====
/-
  The precondition read: the arguments that it names hold reals.
-/
module

public import proofs.«01_k».proof.Proof.RefGates
public import proofs.«01_k».proof.Defs
public import Idealize.ShloMosaic.Lib.ReduceAll

@[expose] public section

noncomputable section

namespace Cert.Pre_finite.Read

open Cert.Pre_finite Idealize.ShloMosaic Idealize.ShloMosaic.ValueIdx Idealize.SL.Sem
open Cert.Alg Cert.Spec

/-- The side conditions of the precondition's operations. -/
theorem facts : Cert.Pre_finite.Facts where
  bcast_S_S768 := by decide
  reducesTo_S768_S_d0 := by decide
  h_S_ := by decide
  bcast_S_S768x8 := by decide
  reducesTo_S768x8_S_d0_1 := by decide
  bcast_S_S8 := by decide
  reducesTo_S8_S_d0 := by decide
  bcast_S_S8x768 := by decide
  reducesTo_S8x768_S_d0_1 := by decide
  bcast_S_S8x768x256 := by decide
  reducesTo_S8x768x256_S_d0_1_2 := by decide
  bcast_S_S8x256 := by decide
  reducesTo_S8x256_S_d0_1 := by decide
  bcast_S_S8x256x128 := by decide
  reducesTo_S8x256x128_S_d0_1_2 := by decide
  bcast_S_S8x128 := by decide
  reducesTo_S8x128_S_d0_1 := by decide
  bcast_S_S8x128x1 := by decide
  reducesTo_S8x128x1_S_d0_1_2 := by decide

instance : Subsingleton S_.Idx := ⟨fun _ _ => funext fun k => k.elim0⟩

/-- The index of the one element. -/
def j0 : S_.Idx := fun k => k.elim0

/-- Of two words that are one under `and`, both are. -/
theorem split (a b : IVec S_ 1) (h : andi a b j0 = 1#1) : a j0 = 1#1 ∧ b j0 = 1#1 := by
  have hd : ∀ p q : BitVec 1, p &&& q = 1#1 → p = 1#1 ∧ q = 1#1 := by decide
  exact hd _ _ h

/-- An argument whose absolute values all lie below the infinity is real. -/
theorem real_of {s : Shape} {axes : List (Fin s.rank)} (x : FVec Ideal s .f32) (hb : S_.BroadcastsInDim s (![] : Fin 0 → Fin s.rank))
    (hr : s.ReducesTo axes S_) (hu : 0 < S_.numel)
    (e : Host.reduce IntOp.andi (cmpf .olt (Host.absf x) (broadcastInDim s ![] hb (constant S_ .f32 0x7F800000#32))) (constantI S_ 1 1#1) hr hu j0 = 1#1)
    (i : s.Idx) : IsR (x i) := by
  have h1 := Host.reduce_andi_all _ _ hr hu j0 e i
  have h2 : BitVec.ofBool (decide (max (x i) (-(x i) : EReal) < Ideal.ofBits .f32 0x7F800000#32)) = 1#1 := h1
  rw [ofBits_inf] at h2
  have h3 : max (x i) (-(x i) : EReal) < ⊤ := by
    by_contra hn
    rw [decide_eq_false hn] at h2
    exact absurd h2 (by decide)
  refine IsR.of_ne (fun hx => ?_) (fun hx => ?_)
  · rw [hx] at h3; simp at h3
  · rw [hx] at h3; simp at h3

/-- Under the precondition the scales, the weights, and the router's shift and bias are real. -/
theorem real (m : (ℓ : Loc Cert.KernelIdeal.nD Cert.KernelIdeal.τ Cert.KernelIdeal.sig) → Buf (Elt Ideal) ℓ)
    (h : Cert.Pre_KernelIdeal_finite (hPre_finite := facts) m) (c : Dev Cert.KernelIdeal.nD) : (Cert.KernelIdeal.HostVals.args m c).Real := by
  have h0 := congrFun (h c) j0
  unfold fn fn_part1 fn_part2 at h0
  dsimp only at h0
  obtain ⟨h0, e17⟩ := split _ _ h0
  obtain ⟨h0, e15⟩ := split _ _ h0
  obtain ⟨h0, e13⟩ := split _ _ h0
  obtain ⟨h0, e11⟩ := split _ _ h0
  obtain ⟨h0, e9⟩ := split _ _ h0
  obtain ⟨h0, e7⟩ := split _ _ h0
  obtain ⟨h0, e6⟩ := split _ _ h0
  obtain ⟨h0, e5⟩ := split _ _ h0
  obtain ⟨e3, e4⟩ := split _ _ h0
  exact
    { rg := fun k => real_of _ _ _ _ e3 (ix1 k)
      rb := fun k => real_of _ _ _ _ e4 (ix1 k)
      W := fun k e => real_of _ _ _ _ e5 (ix2 k e)
      br := fun e => real_of _ _ _ _ e6 (ix1 e)
      g1 := fun e k => real_of _ _ _ _ e7 (ix2 e k)
      W1 := fun e k j => real_of _ _ _ _ e9 (ix3 e k j)
      g2 := fun e k => real_of _ _ _ _ e11 (ix2 e k)
      W2 := fun e k j => real_of _ _ _ _ e13 (ix3 e k j)
      g3 := fun e k => real_of _ _ _ _ e15 (ix2 e k)
      W3 := fun e k => real_of _ _ _ _ e17 (ix3 e k 0) }

end Cert.Pre_finite.Read
-- ==== Proof.lean ====
/-
  The certificate: the kernel, its idealization and the reference run and leave their arguments as they were; the
  idealization differs from the kernel by the mask constant alone; the idealized kernel and the reference end with the
  same four results.

  Both programs' results are read as one set of functions of the arguments (Proof/Spec.lean): the kernel's from its
  blocks (Proof/Arrays.lean), the reference's from its rows and gates (Proof/RefRows.lean, Proof/RefGates.lean).
-/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Pre
public import Idealize.ShloMosaic.Adequacy
public import Idealize.ShloMosaic.Init
public import Idealize.ShloMosaic.Lib.Quiescent

@[expose] public section

noncomputable section

namespace Cert.Proof

open Idealize.ShloMosaic Idealize.ShloMosaic.ValueIdx Idealize.ShloMosaic.StableHlo Idealize.SL.Sem
open Cert.Alg Cert.Spec

/-- The reference runs, leaves its arguments as they were, and ends with every counter zero: it declares none. -/
theorem frame_reference : Cert.quiescent_ReferenceIdeal := fun m g _ =>
  (θ_run Cert.ReferenceIdeal.defs _ _).mono
    (fun r h => ⟨fun c => (h c).2.2.2.2, sem_eq_zero_of_no_sems (by decide) r.2⟩)
    (Cert.ReferenceIdeal.Value.run (F := Ideal) m g)

/-- The layer's arguments as the reference's memory holds them. -/
def refArgs (m' : (ℓ : Loc Cert.ReferenceIdeal.nD Cert.ReferenceIdeal.τ Cert.ReferenceIdeal.sig) → Buf (Elt Ideal) ℓ)
    (c : Dev Cert.ReferenceIdeal.nD) : Args :=
  Cert.ReferenceIdeal.Rows.tab (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)) (m' ((c.tc : Thread Cert.ReferenceIdeal.nD Cert.ReferenceIdeal.τ).loc Cert.ReferenceIdeal.main_arg17)) (m' ((c.tc : Thread Cert.ReferenceIdeal.nD Cert.ReferenceIdeal.τ).loc Cert.ReferenceIdeal.main_arg18))

section
variable (x0 : FVec Ideal Cert.ReferenceIdeal.S16384x768 .f32) (x1 x2 x3 x4 : FVec Ideal Cert.ReferenceIdeal.S768 .f32) (x5 : FVec Ideal Cert.ReferenceIdeal.S768x8 .f32) (x6 : FVec Ideal Cert.ReferenceIdeal.S8 .f32)
  (x7 x8 : FVec Ideal Cert.ReferenceIdeal.S8x768 .f32) (x9 : FVec Ideal Cert.ReferenceIdeal.S8x768x256 .f32) (x10 x11 x12 : FVec Ideal Cert.ReferenceIdeal.S8x256 .f32)
  (x13 : FVec Ideal Cert.ReferenceIdeal.S8x256x128 .f32) (x14 x15 x16 : FVec Ideal Cert.ReferenceIdeal.S8x128 .f32) (x17 : FVec Ideal Cert.ReferenceIdeal.S8x128x1 .f32) (x18 : FVec Ideal Cert.ReferenceIdeal.S8x1 .f32)

/-- From arguments whose scales, weights and router values are real, the reference's first result is the layer's outputs. -/
theorem reference_y (h : (Cert.ReferenceIdeal.Rows.tab x0 x1 x2 x3 x4 x5 x6 x7 x8 x9 x10 x11 x12 x13 x14 x15 x16 x17 x18).Real) :
    Cert.ReferenceIdeal.Read.val_main_v205 (F := Ideal) x0 x1 x2 x3 x4 x5 x6 x7 x8 x9 x10 x11 x12 x13 x14 x15 x16 x17 x18 = (fun i => (Cert.ReferenceIdeal.Rows.tab x0 x1 x2 x3 x4 x5 x6 x7 x8 x9 x10 x11 x12 x13 x14 x15 x16 x17 x18).y (i 0)) :=
  funext fun i => Cert.ReferenceIdeal.Gates.v205_at x0 x1 x2 x3 x4 x5 x6 x7 x8 x9 x10 x11 x12 x13 x14 x15 x16 x17 x18 h i (i 0) rfl

/-- Its second is the fractions of the rows routed to each expert. -/
theorem reference_frac (h : (Cert.ReferenceIdeal.Rows.tab x0 x1 x2 x3 x4 x5 x6 x7 x8 x9 x10 x11 x12 x13 x14 x15 x16 x17 x18).Real) :
    Cert.ReferenceIdeal.Read.val_main_v206 (F := Ideal) x0 x1 x2 x3 x4 x5 x6 = (fun i => (Cert.ReferenceIdeal.Rows.tab x0 x1 x2 x3 x4 x5 x6 x7 x8 x9 x10 x11 x12 x13 x14 x15 x16 x17 x18).frac (i 1)) :=
  funext fun i => Cert.ReferenceIdeal.Gates.v206_at x0 x1 x2 x3 x4 x5 x6 x7 x8 x9 x10 x11 x12 x13 x14 x15 x16 x17 x18 h i (i 1) rfl

/-- Its third is the mean of each expert's probability. -/
theorem reference_pmean (h : (Cert.ReferenceIdeal.Rows.tab x0 x1 x2 x3 x4 x5 x6 x7 x8 x9 x10 x11 x12 x13 x14 x15 x16 x17 x18).Real) :
    Cert.ReferenceIdeal.Read.val_main_v207 (F := Ideal) x0 x1 x2 x3 x4 x5 x6 = (fun i => (Cert.ReferenceIdeal.Rows.tab x0 x1 x2 x3 x4 x5 x6 x7 x8 x9 x10 x11 x12 x13 x14 x15 x16 x17 x18).pmean (i 1)) :=
  funext fun i => Cert.ReferenceIdeal.Gates.v207_at x0 x1 x2 x3 x4 x5 x6 x7 x8 x9 x10 x11 x12 x13 x14 x15 x16 x17 x18 h i (i 1) rfl

/-- Its fourth is the router's logits. -/
theorem reference_L (h : (Cert.ReferenceIdeal.Rows.tab x0 x1 x2 x3 x4 x5 x6 x7 x8 x9 x10 x11 x12 x13 x14 x15 x16 x17 x18).Real) :
    Cert.ReferenceIdeal.Read.val_main_v51 (F := Ideal) x0 x1 x2 x3 x4 x5 x6 = (fun i => (Cert.ReferenceIdeal.Rows.tab x0 x1 x2 x3 x4 x5 x6 x7 x8 x9 x10 x11 x12 x13 x14 x15 x16 x17 x18).L (i 0) (i 1)) := by
  funext i
  have hi : i = ix2 (i 0) (i 1) := Cert.ReferenceIdeal.Rows.ext2 rfl rfl
  exact (congrArg (Cert.ReferenceIdeal.Read.val_main_v51 (F := Ideal) x0 x1 x2 x3 x4 x5 x6) hi).trans (Cert.ReferenceIdeal.Rows.v51_at x0 x1 x2 x3 x4 x5 x6 x7 x8 x9 x10 x11 x12 x13 x14 x15 x16 x17 x18 h (i 0) (i 1))

end

/-- The idealized kernel and the reference, from memories that agree on the arguments and meet the precondition, end
    with the same four results. -/
theorem same_results : Cert.algebraic_KernelIdeal_ReferenceIdeal_pre_finite (hPre_finite := Cert.Pre_finite.Read.facts) := by
  intro m g m' g' hpre hag
  have hreal := Cert.Pre_finite.Read.real m hpre
  have htab : ∀ c : Dev Cert.KernelIdeal.nD, refArgs m' c = Cert.KernelIdeal.HostVals.args m c := by
    intro c
    obtain ⟨a0, a1, a2, a3, a4, a5, a6, a7, a8, a9, a10, a11, a12, a13, a14, a15, a16, a17, a18⟩ := hag c
    unfold refArgs
    rw [a0, a1, a2, a3, a4, a5, a6, a7, a8, a9, a10, a11, a12, a13, a14, a15, a16, a17, a18]
    rfl
  refine ⟨fun c i => (Cert.KernelIdeal.HostVals.args m c).y (i 0), fun c i => (Cert.KernelIdeal.HostVals.args m c).frac (i 1),
    fun c i => (Cert.KernelIdeal.HostVals.args m c).pmean (i 1), fun c i => (Cert.KernelIdeal.HostVals.args m c).L (i 0) (i 1), ?_, ?_⟩
  · exact (θ_run Cert.KernelIdeal.defs _ _).mono
      (fun r h c => by
        obtain ⟨h0, h1, h2, h3, hk⟩ := h c
        exact ⟨h0.trans (Cert.KernelIdeal.Arrays.final11 m c (hreal c)), h2.trans (Cert.KernelIdeal.Arrays.final13 m c (hreal c)),
          h3.trans (Cert.KernelIdeal.Arrays.final14 m c), h1.trans (Cert.KernelIdeal.Arrays.final12 m c), hk⟩)
      (Cert.KernelIdeal.Value.run_blocks (F := Ideal) m g)
  · exact (θ_run Cert.ReferenceIdeal.defs _ _).mono
      (fun r h c => by
        obtain ⟨h0, h1, h2, h3, hk⟩ := h c
        have hr : (refArgs m' c).Real := by rw [htab c]; exact hreal c
        have r0 := reference_y (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)) (m' ((c.tc : Thread Cert.ReferenceIdeal.nD Cert.ReferenceIdeal.τ).loc Cert.ReferenceIdeal.main_arg17)) (m' ((c.tc : Thread Cert.ReferenceIdeal.nD Cert.ReferenceIdeal.τ).loc Cert.ReferenceIdeal.main_arg18)) hr
        have r1 := reference_frac (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)) (m' ((c.tc : Thread Cert.ReferenceIdeal.nD Cert.ReferenceIdeal.τ).loc Cert.ReferenceIdeal.main_arg17)) (m' ((c.tc : Thread Cert.ReferenceIdeal.nD Cert.ReferenceIdeal.τ).loc Cert.ReferenceIdeal.main_arg18)) hr
        have r2 := reference_pmean (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)) (m' ((c.tc : Thread Cert.ReferenceIdeal.nD Cert.ReferenceIdeal.τ).loc Cert.ReferenceIdeal.main_arg17)) (m' ((c.tc : Thread Cert.ReferenceIdeal.nD Cert.ReferenceIdeal.τ).loc Cert.ReferenceIdeal.main_arg18)) hr
        have r3 := reference_L (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)) (m' ((c.tc : Thread Cert.ReferenceIdeal.nD Cert.ReferenceIdeal.τ).loc Cert.ReferenceIdeal.main_arg17)) (m' ((c.tc : Thread Cert.ReferenceIdeal.nD Cert.ReferenceIdeal.τ).loc Cert.ReferenceIdeal.main_arg18)) hr
        rw [show Cert.ReferenceIdeal.Rows.tab (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)) (m' ((c.tc : Thread Cert.ReferenceIdeal.nD Cert.ReferenceIdeal.τ).loc Cert.ReferenceIdeal.main_arg17)) (m' ((c.tc : Thread Cert.ReferenceIdeal.nD Cert.ReferenceIdeal.τ).loc Cert.ReferenceIdeal.main_arg18)) = Cert.KernelIdeal.HostVals.args m c from htab c] at r0 r1 r2 r3
        exact ⟨(h0.trans (Cert.ReferenceIdeal.Read.val_main_v205_eq (launchContents m' c))).trans r0,
          (h1.trans (Cert.ReferenceIdeal.Read.val_main_v206_eq (launchContents m' c))).trans r1,
          (h2.trans (Cert.ReferenceIdeal.Read.val_main_v207_eq (launchContents m' c))).trans r2,
          (h3.trans (Cert.ReferenceIdeal.Read.val_main_v51_eq (launchContents m' c))).trans r3, hk⟩)
      (Cert.ReferenceIdeal.Value.run (F := Ideal) m' g')

/-- Everything the certificate claims. -/
theorem claim : Cert.Claim :=
  ⟨Cert.Kernel.Gen.facts, Cert.KernelIdeal.Gen.facts, Cert.ReferenceIdeal.Gen.facts, Cert.Pre_finite.Read.facts,
    fun m g _ => Cert.Kernel.Gen.frame m g,
    fun m g _ => Cert.KernelIdeal.Gen.frame m g,
    fun m g _ => Cert.KernelIdeal.Gen.frame m g,
    fun m g _ => frame_reference m g trivial,
    fun m g _ => frame_reference m g trivial,
    IdealRules.named_const.statement Cert.KernelIdeal.κ "mask" .f32 0xFF7E486F#32 ⊥ rfl,
    same_results⟩

end Cert.Proof

end
